-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_finite_KernelIdeal [hPre_routed_and_finite_KernelIdeal : Cert.Pre_routed_and_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_finite_ReferenceIdeal [hPre_routed_and_finite_ReferenceIdeal : Cert.Pre_routed_and_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_and_finite_KernelIdeal [hKernelIdeal : Cert.KernelIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_and_finite_ReferenceIdeal [hReferenceIdeal : Cert.ReferenceIdeal.Facts] [hPre_routed_and_finite_ReferenceIdeal : Cert.Pre_routed_and_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_and_finite_KernelIdeal [hKernelIdeal : Cert.KernelIdeal.Facts] [hReferenceIdeal : Cert.ReferenceIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 256]⟩ ⟨2, ![256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_and_finite_KernelIdeal : Cert.Pre_routed_and_finite_KernelIdeal.Facts) (hPre_routed_and_finite_ReferenceIdeal : Cert.Pre_routed_and_finite_ReferenceIdeal.Facts),
    quiescent_Kernel (hKernel := hKernel)
    ∧ quiescent_KernelIdeal (hKernelIdeal := hKernelIdeal)
    ∧ quiescent_KernelIdeal_pre_routed_and_finite_KernelIdeal (hKernelIdeal := hKernelIdeal) (hPre_routed_and_finite_KernelIdeal := hPre_routed_and_finite_KernelIdeal)
    ∧ quiescent_ReferenceIdeal (hReferenceIdeal := hReferenceIdeal)
    ∧ quiescent_ReferenceIdeal_pre_routed_and_finite_ReferenceIdeal (hReferenceIdeal := hReferenceIdeal) (hPre_routed_and_finite_ReferenceIdeal := hPre_routed_and_finite_ReferenceIdeal)
    ∧ preserves_Kernel_KernelIdeal
    ∧ algebraic_KernelIdeal_ReferenceIdeal_pre_routed_and_finite_KernelIdeal (hKernelIdeal := hKernelIdeal) (hReferenceIdeal := hReferenceIdeal) (hPre_routed_and_finite_KernelIdeal := hPre_routed_and_finite_KernelIdeal)
-- ==== Pre_routed_and_finite_KernelIdeal.lean ====
abbrev S256x128 : Shape := ⟨2, ![256, 128]⟩
abbrev S128x32 : Shape := ⟨2, ![128, 32]⟩
abbrev S256x2 : Shape := ⟨2, ![256, 2]⟩
abbrev S2x128x256 : Shape := ⟨3, ![2, 128, 256]⟩
abbrev S_ : Shape := ⟨0, ![]⟩

class Facts : Prop where
  bcast_S_S256x2 : S_.BroadcastsInDim S256x2 (![] : Fin 0 → Fin S256x2.rank)
  reducesTo_S256x2_S_d0_1 : S256x2.ReducesTo [0, 1] S_
  h_S_ : 0 < S_.numel
  bitsLt_bf16_f32 : FTy.bits .bf16 < FTy.bits .f32
  bcast_S_S256x128 : S_.BroadcastsInDim S256x128 (![] : Fin 0 → Fin S256x128.rank)
  reducesTo_S256x128_S_d0_1 : S256x128.ReducesTo [0, 1] S_
  bcast_S_S128x32 : S_.BroadcastsInDim S128x32 (![] : Fin 0 → Fin S128x32.rank)
  reducesTo_S128x32_S_d0_1 : S128x32.ReducesTo [0, 1] S_

variable [Facts]

def fn_part1 {F : FTy → Type} [FloatOps F] (main_v11 : IVec S_ 1) (main_v16 : IVec S_ 1) : IVec S_ 1 :=
  let main_v17 : IVec S_ 1 := andi main_v11 main_v16
  main_v17

def fn {F : FTy → Type} [FloatOps F] (main_arg0 : FVec F S256x128 .bf16) (main_arg1 : FVec F S128x32 .bf16) (main_arg2 : IVec S256x2 32) (main_arg3 : FVec F S2x128x256 .bf16) : IVec S_ 1 :=
  let main_c : IVec S_ 32 := constantI S_ 32 0#32
  let main_v0 : IVec S256x2 32 := broadcastInDim S256x2 ![] bcast_S_S256x2 main_c
  let main_v1 : IVec S256x2 1 := cmpi .sge main_arg2 main_v0
  let main_c_0 : IVec S_ 32 := constantI S_ 32 32#32
  let main_v2 : IVec S256x2 32 := broadcastInDim S256x2 ![] bcast_S_S256x2 main_c_0
  let main_v3 : IVec S256x2 1 := cmpi .slt main_arg2 main_v2
  let main_v4 : IVec S256x2 1 := andi main_v1 main_v3
  let main_c_1 : IVec S_ 1 := constantI S_ 1 1#1
  let main_v5 : IVec S_ 1 := (fun x v => Host.reduce IntOp.andi x v reducesTo_S256x2_S_d0_1 h_S_) main_v4 main_c_1
  let main_v6 : FVec F S256x128 .f32 := (extf .f32 · bitsLt_bf16_f32) main_arg0
  let main_v7 : FVec F S256x128 .f32 := Host.absf main_v6
  let main_cst : FVec F S_ .f32 := constant S_ .f32 0x7F800000#32
  let main_v8 : FVec F S256x128 .f32 := broadcastInDim S256x128 ![] bcast_S_S256x128 main_cst
  let main_v9 : IVec S256x128 1 := cmpf .olt main_v7 main_v8
  let main_c_2 : IVec S_ 1 := constantI S_ 1 1#1
  let main_v10 : IVec S_ 1 := (fun x v => Host.reduce IntOp.andi x v reducesTo_S256x128_S_d0_1 h_S_) main_v9 main_c_2
  let main_v11 : IVec S_ 1 := andi main_v5 main_v10
  let main_v12 : FVec F S128x32 .f32 := (extf .f32 · bitsLt_bf16_f32) main_arg1
  let main_v13 : FVec F S128x32 .f32 := Host.absf main_v12
  let main_cst_3 : FVec F S_ .f32 := constant S_ .f32 0x7F800000#32
  let main_v14 : FVec F S128x32 .f32 := broadcastInDim S128x32 ![] bcast_S_S128x32 main_cst_3
  let main_v15 : IVec S128x32 1 := cmpf .olt main_v13 main_v14
  let main_c_4 : IVec S_ 1 := constantI S_ 1 1#1
  let main_v16 : IVec S_ 1 := (fun x v => Host.reduce IntOp.andi x v reducesTo_S128x32_S_d0_1 h_S_) main_v15 main_c_4
  fn_part1 (F := F) main_v11 main_v16
-- ==== Pre_routed_and_finite_ReferenceIdeal.lean ====
abbrev S256x128 : Shape := ⟨2, ![256, 128]⟩
abbrev S128x32 : Shape := ⟨2, ![128, 32]⟩
abbrev S256x2 : Shape := ⟨2, ![256, 2]⟩
abbrev S32x128x256 : Shape := ⟨3, ![32, 128, 256]⟩
abbrev S_ : Shape := ⟨0, ![]⟩

class Facts : Prop where
  bcast_S_S256x2 : S_.BroadcastsInDim S256x2 (![] : Fin 0 → Fin S256x2.rank)
  reducesTo_S256x2_S_d0_1 : S256x2.ReducesTo [0, 1] S_
  h_S_ : 0 < S_.numel
  bitsLt_bf16_f32 : FTy.bits .bf16 < FTy.bits .f32
  bcast_S_S256x128 : S_.BroadcastsInDim S256x128 (![] : Fin 0 → Fin S256x128.rank)
  reducesTo_S256x128_S_d0_1 : S256x128.ReducesTo [0, 1] S_
  bcast_S_S128x32 : S_.BroadcastsInDim S128x32 (![] : Fin 0 → Fin S128x32.rank)
  reducesTo_S128x32_S_d0_1 : S128x32.ReducesTo [0, 1] S_

variable [Facts]

def fn_part1 {F : FTy → Type} [FloatOps F] (main_v11 : IVec S_ 1) (main_v16 : IVec S_ 1) : IVec S_ 1 :=
  let main_v17 : IVec S_ 1 := andi main_v11 main_v16
  main_v17

def fn {F : FTy → Type} [FloatOps F] (main_arg0 : FVec F S256x128 .bf16) (main_arg1 : FVec F S128x32 .bf16) (main_arg2 : IVec S256x2 32) (main_arg3 : FVec F S32x128x256 .bf16) : IVec S_ 1 :=
  let main_c : IVec S_ 32 := constantI S_ 32 0#32
  let main_v0 : IVec S256x2 32 := broadcastInDim S256x2 ![] bcast_S_S256x2 main_c
  let main_v1 : IVec S256x2 1 := cmpi .sge main_arg2 main_v0
  let main_c_0 : IVec S_ 32 := constantI S_ 32 32#32
  let main_v2 : IVec S256x2 32 := broadcastInDim S256x2 ![] bcast_S_S256x2 main_c_0
  let main_v3 : IVec S256x2 1 := cmpi .slt main_arg2 main_v2
  let main_v4 : IVec S256x2 1 := andi main_v1 main_v3
  let main_c_1 : IVec S_ 1 := constantI S_ 1 1#1
  let main_v5 : IVec S_ 1 := (fun x v => Host.reduce IntOp.andi x v reducesTo_S256x2_S_d0_1 h_S_) main_v4 main_c_1
  let main_v6 : FVec F S256x128 .f32 := (extf .f32 · bitsLt_bf16_f32) main_arg0
  let main_v7 : FVec F S256x128 .f32 := Host.absf main_v6
  let main_cst : FVec F S_ .f32 := constant S_ .f32 0x7F800000#32
  let main_v8 : FVec F S256x128 .f32 := broadcastInDim S256x128 ![] bcast_S_S256x128 main_cst
  let main_v9 : IVec S256x128 1 := cmpf .olt main_v7 main_v8
  let main_c_2 : IVec S_ 1 := constantI S_ 1 1#1
  let main_v10 : IVec S_ 1 := (fun x v => Host.reduce IntOp.andi x v reducesTo_S256x128_S_d0_1 h_S_) main_v9 main_c_2
  let main_v11 : IVec S_ 1 := andi main_v5 main_v10
  let main_v12 : FVec F S128x32 .f32 := (extf .f32 · bitsLt_bf16_f32) main_arg1
  let main_v13 : FVec F S128x32 .f32 := Host.absf main_v12
  let main_cst_3 : FVec F S_ .f32 := constant S_ .f32 0x7F800000#32
  let main_v14 : FVec F S128x32 .f32 := broadcastInDim S128x32 ![] bcast_S_S128x32 main_cst_3
  let main_v15 : IVec S128x32 1 := cmpf .olt main_v13 main_v14
  let main_c_4 : IVec S_ 1 := constantI S_ 1 1#1
  let main_v16 : IVec S_ 1 := (fun x v => Host.reduce IntOp.andi x v reducesTo_S128x32_S_d0_1 h_S_) main_v15 main_c_4
  fn_part1 (F := F) main_v11 main_v16
-- ==== Kernel.lean ====
abbrev S256x128 : Shape := ⟨2, ![256, 128]⟩
abbrev S128x32 : Shape := ⟨2, ![128, 32]⟩
abbrev S256x2 : Shape := ⟨2, ![256, 2]⟩
abbrev S2x128x256 : Shape := ⟨3, ![2, 128, 256]⟩
abbrev S16x256 : Shape := ⟨2, ![16, 256]⟩
abbrev S256x256 : Shape := ⟨2, ![256, 256]⟩
abbrev S15x16x256 : Shape := ⟨3, ![15, 16, 256]⟩
abbrev S15 : Shape := ⟨1, ![15]⟩
abbrev S_ : Shape := ⟨0, ![]⟩
abbrev S256x32 : Shape := ⟨2, ![256, 32]⟩
abbrev S256 : Shape := ⟨1, ![256]⟩
abbrev S256x1 : Shape := ⟨2, ![256, 1]⟩
abbrev S1 : Shape := ⟨1, ![1]⟩
abbrev S1x16x256 : Shape := ⟨3, ![1, 16, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x2, .i32⟩
  | .hbm, ⟨3, _⟩ => ⟨S2x128x256, .bf16⟩
  | .hbm, ⟨4, _⟩ => ⟨S16x256, .f32⟩
  | .local _ .vmem, ⟨0, _⟩ => ⟨S256x128, .bf16⟩
  | .local _ .vmem, ⟨1, _⟩ => ⟨S128x32, .bf16⟩
  | .local _ .vmem, ⟨2, _⟩ => ⟨S256x2, .i32⟩
  | .local _ .vmem, ⟨3, _⟩ => ⟨S2x128x256, .bf16⟩
  | .local _ .vmem, ⟨4, _⟩ => ⟨S16x256, .f32⟩
  | .local _ .vmem, ⟨5, _⟩ => ⟨S256x256, .bf16⟩
  | .local _ .vmem, ⟨6, _⟩ => ⟨S15x16x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_160 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v267 : BitVec 32 := Scalar.addi v2 c1_i32_160
  let c16_i32_161 : BitVec 32 := 16#32
  let c0_i32_162 : BitVec 32 := 0#32
  let v268 : BitVec 1 := Scalar.cmpi .eq c16_i32_161 c0_i32_162
  let c1_i32_163 : BitVec 32 := 1#32
  let v269 : BitVec 32 := Scalar.select v268 c1_i32_163 c16_i32_161
  let v270 : BitVec 32 := Scalar.remsi v267 v269
  let c0_i32_165 : BitVec 32 := 0#32
  let v272 : BitVec 1 := Scalar.cmpi .slt v270 c0_i32_165
  let c0_i32_166 : BitVec 32 := 0#32
  let v273 : BitVec 1 := Scalar.cmpi .slt v269 c0_i32_166
  let v274 : BitVec 1 := Scalar.xori v272 v273
  let c0_i32_164 : BitVec 32 := 0#32
  let v271 : BitVec 1 := Scalar.cmpi .ne v270 c0_i32_164
  let v275 : BitVec 1 := Scalar.andi v274 v271
  let v276 : BitVec 32 := Scalar.addi v270 v269
  let v277 : BitVec 32 := Scalar.select v275 v276 v270
  let c16_i32_167 : BitVec 32 := 16#32
  let v278 : BitVec 32 := Scalar.muli v277 c16_i32_167
  let c0_i32_175 : BitVec 32 := 0#32
  ![v278.toNat, 0]
def k0_dev16 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_160 : BitVec 32 := 1#32
  let v267 : BitVec 32 := Scalar.addi v2 c1_i32_160
  let c16_i32_161 : BitVec 32 := 16#32
  let c0_i32_162 : BitVec 32 := 0#32
  let v268 : BitVec 1 := Scalar.cmpi .eq c16_i32_161 c0_i32_162
  let c1_i32_163 : BitVec 32 := 1#32
  let v269 : BitVec 32 := Scalar.select v268 c1_i32_163 c16_i32_161
  let v270 : BitVec 32 := Scalar.remsi v267 v269
  let c0_i32_165 : BitVec 32 := 0#32
  let v272 : BitVec 1 := Scalar.cmpi .slt v270 c0_i32_165
  let c0_i32_166 : BitVec 32 := 0#32
  let v273 : BitVec 1 := Scalar.cmpi .slt v269 c0_i32_166
  let v274 : BitVec 1 := Scalar.xori v272 v273
  let c0_i32_164 : BitVec 32 := 0#32
  let v271 : BitVec 1 := Scalar.cmpi .ne v270 c0_i32_164
  let v275 : BitVec 1 := Scalar.andi v274 v271
  let v276 : BitVec 32 := Scalar.addi v270 v269
  let v277 : BitVec 32 := Scalar.select v275 v276 v270
  let c1_i32_171 : BitVec 32 := 1#32
  let v279 : BitVec 32 := Scalar.muli v277 c1_i32_171
  let v280 : BitVec 32 := Scalar.addi c0_i32_172 v279
  v280.toNat
def k0_dev17 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_176 : BitVec 32 := 2#32
  let v288 : BitVec 32 := Scalar.addi v2 c2_i32_176
  let c16_i32_177 : BitVec 32 := 16#32
  let c0_i32_178 : BitVec 32 := 0#32
  let v289 : BitVec 1 := Scalar.cmpi .eq c16_i32_177 c0_i32_178
  let c1_i32_179 : BitVec 32 := 1#32
  let v290 : BitVec 32 := Scalar.select v289 c1_i32_179 c16_i32_177
  let v291 : BitVec 32 := Scalar.remsi v288 v290
  let c0_i32_181 : BitVec 32 := 0#32
  let v293 : BitVec 1 := Scalar.cmpi .slt v291 c0_i32_181
  let c0_i32_182 : BitVec 32 := 0#32
  let v294 : BitVec 1 := Scalar.cmpi .slt v290 c0_i32_182
  let v295 : BitVec 1 := Scalar.xori v293 v294
  let c0_i32_180 : BitVec 32 := 0#32
  let v292 : BitVec 1 := Scalar.cmpi .ne v291 c0_i32_180
  let v296 : BitVec 1 := Scalar.andi v295 v292
  let v297 : BitVec 32 := Scalar.addi v291 v290
  let v298 : BitVec 32 := Scalar.select v296 v297 v291
  let c1_i32_187 : BitVec 32 := 1#32
  let v300 : BitVec 32 := Scalar.muli v298 c1_i32_187
  let v301 : BitVec 32 := Scalar.addi c0_i32_188 v300
  v301.toNat
def k0_dev18 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_192 : BitVec 32 := 3#32
  let v309 : BitVec 32 := Scalar.addi v2 c3_i32_192
  let c16_i32_193 : BitVec 32 := 16#32
  let c0_i32_194 : BitVec 32 := 0#32
  let v310 : BitVec 1 := Scalar.cmpi .eq c16_i32_193 c0_i32_194
  let c1_i32_195 : BitVec 32 := 1#32
  let v311 : BitVec 32 := Scalar.select v310 c1_i32_195 c16_i32_193
  let v312 : BitVec 32 := Scalar.remsi v309 v311
  let c0_i32_197 : BitVec 32 := 0#32
  let v314 : BitVec 1 := Scalar.cmpi .slt v312 c0_i32_197
  let c0_i32_198 : BitVec 32 := 0#32
  let v315 : BitVec 1 := Scalar.cmpi .slt v311 c0_i32_198
  let v316 : BitVec 1 := Scalar.xori v314 v315
  let c0_i32_196 : BitVec 32 := 0#32
  let v313 : BitVec 1 := Scalar.cmpi .ne v312 c0_i32_196
  let v317 : BitVec 1 := Scalar.andi v316 v313
  let v318 : BitVec 32 := Scalar.addi v312 v311
  let v319 : BitVec 32 := Scalar.select v317 v318 v312
  let c1_i32_203 : BitVec 32 := 1#32
  let v321 : BitVec 32 := Scalar.muli v319 c1_i32_203
  let v322 : BitVec 32 := Scalar.addi c0_i32_204 v321
  v322.toNat
def k0_dev19 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_208 : BitVec 32 := 4#32
  let v330 : BitVec 32 := Scalar.addi v2 c4_i32_208
  let c16_i32_209 : BitVec 32 := 16#32
  let c0_i32_210 : BitVec 32 := 0#32
  let v331 : BitVec 1 := Scalar.cmpi .eq c16_i32_209 c0_i32_210
  let c1_i32_211 : BitVec 32 := 1#32
  let v332 : BitVec 32 := Scalar.select v331 c1_i32_211 c16_i32_209
  let v333 : BitVec 32 := Scalar.remsi v330 v332
  let c0_i32_213 : BitVec 32 := 0#32
  let v335 : BitVec 1 := Scalar.cmpi .slt v333 c0_i32_213
  let c0_i32_214 : BitVec 32 := 0#32
  let v336 : BitVec 1 := Scalar.cmpi .slt v332 c0_i32_214
  let v337 : BitVec 1 := Scalar.xori v335 v336
  let c0_i32_212 : BitVec 32 := 0#32
  let v334 : BitVec 1 := Scalar.cmpi .ne v333 c0_i32_212
  let v338 : BitVec 1 := Scalar.andi v337 v334
  let v339 : BitVec 32 := Scalar.addi v333 v332
  let v340 : BitVec 32 := Scalar.select v338 v339 v333
  let c1_i32_219 : BitVec 32 := 1#32
  let v342 : BitVec 32 := Scalar.muli v340 c1_i32_219
  let v343 : BitVec 32 := Scalar.addi c0_i32_220 v342
  v343.toNat
def k0_dev20 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_224 : BitVec 32 := 5#32
  let v351 : BitVec 32 := Scalar.addi v2 c5_i32_224
  let c16_i32_225 : BitVec 32 := 16#32
  let c0_i32_226 : BitVec 32 := 0#32
  let v352 : BitVec 1 := Scalar.cmpi .eq c16_i32_225 c0_i32_226
  let c1_i32_227 : BitVec 32 := 1#32
  let v353 : BitVec 32 := Scalar.select v352 c1_i32_227 c16_i32_225
  let v354 : BitVec 32 := Scalar.remsi v351 v353
  let c0_i32_229 : BitVec 32 := 0#32
  let v356 : BitVec 1 := Scalar.cmpi .slt v354 c0_i32_229
  let c0_i32_230 : BitVec 32 := 0#32
  let v357 : BitVec 1 := Scalar.cmpi .slt v353 c0_i32_230
  let v358 : BitVec 1 := Scalar.xori v356 v357
  let c0_i32_228 : BitVec 32 := 0#32
  let v355 : BitVec 1 := Scalar.cmpi .ne v354 c0_i32_228
  let v359 : BitVec 1 := Scalar.andi v358 v355
  let v360 : BitVec 32 := Scalar.addi v354 v353
  let v361 : BitVec 32 := Scalar.select v359 v360 v354
  let c1_i32_235 : BitVec 32 := 1#32
  let v363 : BitVec 32 := Scalar.muli v361 c1_i32_235
  let v364 : BitVec 32 := Scalar.addi c0_i32_236 v363
  v364.toNat
def k0_dev21 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_240 : BitVec 32 := 6#32
  let v372 : BitVec 32 := Scalar.addi v2 c6_i32_240
  let c16_i32_241 : BitVec 32 := 16#32
  let c0_i32_242 : BitVec 32 := 0#32
  let v373 : BitVec 1 := Scalar.cmpi .eq c16_i32_241 c0_i32_242
  let c1_i32_243 : BitVec 32 := 1#32
  let v374 : BitVec 32 := Scalar.select v373 c1_i32_243 c16_i32_241
  let v375 : BitVec 32 := Scalar.remsi v372 v374
  let c0_i32_245 : BitVec 32 := 0#32
  let v377 : BitVec 1 := Scalar.cmpi .slt v375 c0_i32_245
  let c0_i32_246 : BitVec 32 := 0#32
  let v378 : BitVec 1 := Scalar.cmpi .slt v374 c0_i32_246
  let v379 : BitVec 1 := Scalar.xori v377 v378
  let c0_i32_244 : BitVec 32 := 0#32
  let v376 : BitVec 1 := Scalar.cmpi .ne v375 c0_i32_244
  let v380 : BitVec 1 := Scalar.andi v379 v376
  let v381 : BitVec 32 := Scalar.addi v375 v374
  let v382 : BitVec 32 := Scalar.select v380 v381 v375
  let c1_i32_251 : BitVec 32 := 1#32
  let v384 : BitVec 32 := Scalar.muli v382 c1_i32_251
  let v385 : BitVec 32 := Scalar.addi c0_i32_252 v384
  v385.toNat
def k0_dev22 (d0 : Dev nD) : Nat :=
  let c0_i32_268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_256 : BitVec 32 := 7#32
  let v393 : BitVec 32 := Scalar.addi v2 c7_i32_256
  let c16_i32_257 : BitVec 32 := 16#32
  let c0_i32_258 : BitVec 32 := 0#32
  let v394 : BitVec 1 := Scalar.cmpi .eq c16_i32_257 c0_i32_258
  let c1_i32_259 : BitVec 32 := 1#32
  let v395 : BitVec 32 := Scalar.select v394 c1_i32_259 c16_i32_257
  let v396 : BitVec 32 := Scalar.remsi v393 v395
  let c0_i32_261 : BitVec 32 := 0#32
  let v398 : BitVec 1 := Scalar.cmpi .slt v396 c0_i32_261
  let c0_i32_262 : BitVec 32 := 0#32
  let v399 : BitVec 1 := Scalar.cmpi .slt v395 c0_i32_262
  let v400 : BitVec 1 := Scalar.xori v398 v399
  let c0_i32_260 : BitVec 32 := 0#32
  let v397 : BitVec 1 := Scalar.cmpi .ne v396 c0_i32_260
  let v401 : BitVec 1 := Scalar.andi v400 v397
  let v402 : BitVec 32 := Scalar.addi v396 v395
  let v403 : BitVec 32 := Scalar.select v401 v402 v396
  let c1_i32_267 : BitVec 32 := 1#32
  let v405 : BitVec 32 := Scalar.muli v403 c1_i32_267
  let v406 : BitVec 32 := Scalar.addi c0_i32_268 v405
  v406.toNat
def k0_dev23 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_272 : BitVec 32 := 8#32
  let v414 : BitVec 32 := Scalar.addi v2 c8_i32_272
  let c16_i32_273 : BitVec 32 := 16#32
  let c0_i32_274 : BitVec 32 := 0#32
  let v415 : BitVec 1 := Scalar.cmpi .eq c16_i32_273 c0_i32_274
  let c1_i32_275 : BitVec 32 := 1#32
  let v416 : BitVec 32 := Scalar.select v415 c1_i32_275 c16_i32_273
  let v417 : BitVec 32 := Scalar.remsi v414 v416
  let c0_i32_277 : BitVec 32 := 0#32
  let v419 : BitVec 1 := Scalar.cmpi .slt v417 c0_i32_277
  let c0_i32_278 : BitVec 32 := 0#32
  let v420 : BitVec 1 := Scalar.cmpi .slt v416 c0_i32_278
  let v421 : BitVec 1 := Scalar.xori v419 v420
  let c0_i32_276 : BitVec 32 := 0#32
  let v418 : BitVec 1 := Scalar.cmpi .ne v417 c0_i32_276
  let v422 : BitVec 1 := Scalar.andi v421 v418
  let v423 : BitVec 32 := Scalar.addi v417 v416
  let v424 : BitVec 32 := Scalar.select v422 v423 v417
  let c1_i32_283 : BitVec 32 := 1#32
  let v426 : BitVec 32 := Scalar.muli v424 c1_i32_283
  let v427 : BitVec 32 := Scalar.addi c0_i32_284 v426
  v427.toNat
def k0_dev24 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_288 : BitVec 32 := 9#32
  let v435 : BitVec 32 := Scalar.addi v2 c9_i32_288
  let c16_i32_289 : BitVec 32 := 16#32
  let c0_i32_290 : BitVec 32 := 0#32
  let v436 : BitVec 1 := Scalar.cmpi .eq c16_i32_289 c0_i32_290
  let c1_i32_291 : BitVec 32 := 1#32
  let v437 : BitVec 32 := Scalar.select v436 c1_i32_291 c16_i32_289
  let v438 : BitVec 32 := Scalar.remsi v435 v437
  let c0_i32_293 : BitVec 32 := 0#32
  let v440 : BitVec 1 := Scalar.cmpi .slt v438 c0_i32_293
  let c0_i32_294 : BitVec 32 := 0#32
  let v441 : BitVec 1 := Scalar.cmpi .slt v437 c0_i32_294
  let v442 : BitVec 1 := Scalar.xori v440 v441
  let c0_i32_292 : BitVec 32 := 0#32
  let v439 : BitVec 1 := Scalar.cmpi .ne v438 c0_i32_292
  let v443 : BitVec 1 := Scalar.andi v442 v439
  let v444 : BitVec 32 := Scalar.addi v438 v437
  let v445 : BitVec 32 := Scalar.select v443 v444 v438
  let c1_i32_299 : BitVec 32 := 1#32
  let v447 : BitVec 32 := Scalar.muli v445 c1_i32_299
  let v448 : BitVec 32 := Scalar.addi c0_i32_300 v447
  v448.toNat
def k0_dev25 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_304 : BitVec 32 := 10#32
  let v456 : BitVec 32 := Scalar.addi v2 c10_i32_304
  let c16_i32_305 : BitVec 32 := 16#32
  let c0_i32_306 : BitVec 32 := 0#32
  let v457 : BitVec 1 := Scalar.cmpi .eq c16_i32_305 c0_i32_306
  let c1_i32_307 : BitVec 32 := 1#32
  let v458 : BitVec 32 := Scalar.select v457 c1_i32_307 c16_i32_305
  let v459 : BitVec 32 := Scalar.remsi v456 v458
  let c0_i32_309 : BitVec 32 := 0#32
  let v461 : BitVec 1 := Scalar.cmpi .slt v459 c0_i32_309
  let c0_i32_310 : BitVec 32 := 0#32
  let v462 : BitVec 1 := Scalar.cmpi .slt v458 c0_i32_310
  let v463 : BitVec 1 := Scalar.xori v461 v462
  let c0_i32_308 : BitVec 32 := 0#32
  let v460 : BitVec 1 := Scalar.cmpi .ne v459 c0_i32_308
  let v464 : BitVec 1 := Scalar.andi v463 v460
  let v465 : BitVec 32 := Scalar.addi v459 v458
  let v466 : BitVec 32 := Scalar.select v464 v465 v459
  let c1_i32_315 : BitVec 32 := 1#32
  let v468 : BitVec 32 := Scalar.muli v466 c1_i32_315
  let v469 : BitVec 32 := Scalar.addi c0_i32_316 v468
  v469.toNat
def k0_dev26 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_320 : BitVec 32 := 11#32
  let v477 : BitVec 32 := Scalar.addi v2 c11_i32_320
  let c16_i32_321 : BitVec 32 := 16#32
  let c0_i32_322 : BitVec 32 := 0#32
  let v478 : BitVec 1 := Scalar.cmpi .eq c16_i32_321 c0_i32_322
  let c1_i32_323 : BitVec 32 := 1#32
  let v479 : BitVec 32 := Scalar.select v478 c1_i32_323 c16_i32_321
  let v480 : BitVec 32 := Scalar.remsi v477 v479
  let c0_i32_325 : BitVec 32 := 0#32
  let v482 : BitVec 1 := Scalar.cmpi .slt v480 c0_i32_325
  let c0_i32_326 : BitVec 32 := 0#32
  let v483 : BitVec 1 := Scalar.cmpi .slt v479 c0_i32_326
  let v484 : BitVec 1 := Scalar.xori v482 v483
  let c0_i32_324 : BitVec 32 := 0#32
  let v481 : BitVec 1 := Scalar.cmpi .ne v480 c0_i32_324
  let v485 : BitVec 1 := Scalar.andi v484 v481
  let v486 : BitVec 32 := Scalar.addi v480 v479
  let v487 : BitVec 32 := Scalar.select v485 v486 v480
  let c1_i32_331 : BitVec 32 := 1#32
  let v489 : BitVec 32 := Scalar.muli v487 c1_i32_331
  let v490 : BitVec 32 := Scalar.addi c0_i32_332 v489
  v490.toNat
def k0_dev27 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_336 : BitVec 32 := 12#32
  let v498 : BitVec 32 := Scalar.addi v2 c12_i32_336
  let c16_i32_337 : BitVec 32 := 16#32
  let c0_i32_338 : BitVec 32 := 0#32
  let v499 : BitVec 1 := Scalar.cmpi .eq c16_i32_337 c0_i32_338
  let c1_i32_339 : BitVec 32 := 1#32
  let v500 : BitVec 32 := Scalar.select v499 c1_i32_339 c16_i32_337
  let v501 : BitVec 32 := Scalar.remsi v498 v500
  let c0_i32_341 : BitVec 32 := 0#32
  let v503 : BitVec 1 := Scalar.cmpi .slt v501 c0_i32_341
  let c0_i32_342 : BitVec 32 := 0#32
  let v504 : BitVec 1 := Scalar.cmpi .slt v500 c0_i32_342
  let v505 : BitVec 1 := Scalar.xori v503 v504
  let c0_i32_340 : BitVec 32 := 0#32
  let v502 : BitVec 1 := Scalar.cmpi .ne v501 c0_i32_340
  let v506 : BitVec 1 := Scalar.andi v505 v502
  let v507 : BitVec 32 := Scalar.addi v501 v500
  let v508 : BitVec 32 := Scalar.select v506 v507 v501
  let c1_i32_347 : BitVec 32 := 1#32
  let v510 : BitVec 32 := Scalar.muli v508 c1_i32_347
  let v511 : BitVec 32 := Scalar.addi c0_i32_348 v510
  v511.toNat
def k0_dev28 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_352 : BitVec 32 := 13#32
  let v519 : BitVec 32 := Scalar.addi v2 c13_i32_352
  let c16_i32_353 : BitVec 32 := 16#32
  let c0_i32_354 : BitVec 32 := 0#32
  let v520 : BitVec 1 := Scalar.cmpi .eq c16_i32_353 c0_i32_354
  let c1_i32_355 : BitVec 32 := 1#32
  let v521 : BitVec 32 := Scalar.select v520 c1_i32_355 c16_i32_353
  let v522 : BitVec 32 := Scalar.remsi v519 v521
  let c0_i32_357 : BitVec 32 := 0#32
  let v524 : BitVec 1 := Scalar.cmpi .slt v522 c0_i32_357
  let c0_i32_358 : BitVec 32 := 0#32
  let v525 : BitVec 1 := Scalar.cmpi .slt v521 c0_i32_358
  let v526 : BitVec 1 := Scalar.xori v524 v525
  let c0_i32_356 : BitVec 32 := 0#32
  let v523 : BitVec 1 := Scalar.cmpi .ne v522 c0_i32_356
  let v527 : BitVec 1 := Scalar.andi v526 v523
  let v528 : BitVec 32 := Scalar.addi v522 v521
  let v529 : BitVec 32 := Scalar.select v527 v528 v522
  let c1_i32_363 : BitVec 32 := 1#32
  let v531 : BitVec 32 := Scalar.muli v529 c1_i32_363
  let v532 : BitVec 32 := Scalar.addi c0_i32_364 v531
  v532.toNat
def k0_dev29 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_368 : BitVec 32 := 14#32
  let v540 : BitVec 32 := Scalar.addi v2 c14_i32_368
  let c16_i32_369 : BitVec 32 := 16#32
  let c0_i32_370 : BitVec 32 := 0#32
  let v541 : BitVec 1 := Scalar.cmpi .eq c16_i32_369 c0_i32_370
  let c1_i32_371 : BitVec 32 := 1#32
  let v542 : BitVec 32 := Scalar.select v541 c1_i32_371 c16_i32_369
  let v543 : BitVec 32 := Scalar.remsi v540 v542
  let c0_i32_373 : BitVec 32 := 0#32
  let v545 : BitVec 1 := Scalar.cmpi .slt v543 c0_i32_373
  let c0_i32_374 : BitVec 32 := 0#32
  let v546 : BitVec 1 := Scalar.cmpi .slt v542 c0_i32_374
  let v547 : BitVec 1 := Scalar.xori v545 v546
  let c0_i32_372 : BitVec 32 := 0#32
  let v544 : BitVec 1 := Scalar.cmpi .ne v543 c0_i32_372
  let v548 : BitVec 1 := Scalar.andi v547 v544
  let v549 : BitVec 32 := Scalar.addi v543 v542
  let v550 : BitVec 32 := Scalar.select v548 v549 v543
  let c1_i32_379 : BitVec 32 := 1#32
  let v552 : BitVec 32 := Scalar.muli v550 c1_i32_379
  let v553 : BitVec 32 := Scalar.addi c0_i32_380 v552
  v553.toNat
def k0_dev30 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_384 : BitVec 32 := 15#32
  let v561 : BitVec 32 := Scalar.addi v2 c15_i32_384
  let c16_i32_385 : BitVec 32 := 16#32
  let c0_i32_386 : BitVec 32 := 0#32
  let v562 : BitVec 1 := Scalar.cmpi .eq c16_i32_385 c0_i32_386
  let c1_i32_387 : BitVec 32 := 1#32
  let v563 : BitVec 32 := Scalar.select v562 c1_i32_387 c16_i32_385
  let v564 : BitVec 32 := Scalar.remsi v561 v563
  let c0_i32_389 : BitVec 32 := 0#32
  let v566 : BitVec 1 := Scalar.cmpi .slt v564 c0_i32_389
  let c0_i32_390 : BitVec 32 := 0#32
  let v567 : BitVec 1 := Scalar.cmpi .slt v563 c0_i32_390
  let v568 : BitVec 1 := Scalar.xori v566 v567
  let c0_i32_388 : BitVec 32 := 0#32
  let v565 : BitVec 1 := Scalar.cmpi .ne v564 c0_i32_388
  let v569 : BitVec 1 := Scalar.andi v568 v565
  let v570 : BitVec 32 := Scalar.addi v564 v563
  let v571 : BitVec 32 := Scalar.select v569 v570 v564
  let c1_i32_395 : BitVec 32 := 1#32
  let v573 : BitVec 32 := Scalar.muli v571 c1_i32_395
  let v574 : BitVec 32 := Scalar.addi c0_i32_396 v573
  v574.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_400 : BitVec 32 := 16#32
  let v582 : BitVec 32 := Scalar.muli v2 c16_i32_400
  let v583 : Index := Scalar.indexCast v582
  let c0_401 : Index := 0#32
  ![v583.toNat, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x2 : Shape := ⟨2, ![256, 2]⟩
abbrev S32x128x256 : Shape := ⟨3, ![32, 128, 256]⟩
abbrev S256x32 : Shape := ⟨2, ![256, 32]⟩
abbrev S_ : Shape := ⟨0, ![]⟩
abbrev S256 : Shape := ⟨1, ![256]⟩
abbrev S256x1 : Shape := ⟨2, ![256, 1]⟩
abbrev S256x128x256 : Shape := ⟨3, ![256, 128, 256]⟩
abbrev S256x256 : Shape := ⟨2, ![256, 256]⟩

abbrev nBuf : Space → Nat
  | .hbm => 90
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x2, .i32⟩
  | .hbm, ⟨3, _⟩ => ⟨S32x128x256, .bf16⟩
  | .hbm, ⟨4, _⟩ => ⟨S256x128, .f32⟩
  | .hbm, ⟨5, _⟩ => ⟨S128x32, .f32⟩
  | .hbm, ⟨6, _⟩ => ⟨S256x32, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S256x32, .f32⟩
  | .hbm, ⟨11, _⟩ => ⟨S256x32, .f32⟩
  | .hbm, ⟨12, _⟩ => ⟨S256x32, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x32, .f32⟩
  | .hbm, ⟨17, _⟩ => ⟨S256x32, .f32⟩
  | .hbm, ⟨18, _⟩ => ⟨S256x1, .i32⟩
  | .hbm, ⟨19, _⟩ => ⟨S256, .i32⟩
  | .hbm, ⟨20, _⟩ => ⟨S256x1, .i32⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S256x1, .i32⟩
  | .hbm, ⟨38, _⟩ => ⟨S256x1, .i32⟩
  | .hbm, ⟨39, _⟩ => ⟨S256x2, .i32⟩
  | .hbm, ⟨40, _⟩ => ⟨S256, .f32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S256x1, .i32⟩
  | .hbm, ⟨56, _⟩ => ⟨S256x1, .i32⟩
  | .hbm, ⟨57, _⟩ => ⟨S256x2, .i32⟩
  | .hbm, ⟨58, _⟩ => ⟨S256, .f32⟩
  | .hbm, ⟨59, _⟩ => ⟨S256, .f32⟩
  | .hbm, ⟨60, _⟩ => ⟨S32x128x256, .f32⟩
  | .hbm, ⟨61, _⟩ => ⟨S_, .i32⟩
  | .hbm, ⟨62, _⟩ => ⟨S256, .i32⟩
  | .hbm, ⟨63, _⟩ => ⟨S256, .i1⟩
  | .hbm, ⟨64, _⟩ => ⟨S_, .i32⟩
  | .hbm, ⟨65, _⟩ => ⟨S256, .i32⟩
  | .hbm, ⟨66, _⟩ => ⟨S256, .i32⟩
  | .hbm, ⟨67, _⟩ => ⟨S256, .i32⟩
  | .hbm, ⟨68, _⟩ => ⟨S256x1, .i32⟩
  | .hbm, ⟨69, _⟩ => ⟨S256x128x256, .f32⟩
  | .hbm, ⟨70, _⟩ => ⟨S256x256, .f32⟩
  | .hbm, ⟨71, _⟩ => ⟨S_, .i32⟩
  | .hbm, ⟨72, _⟩ => ⟨S256, .i32⟩
  | .hbm, ⟨73, _⟩ => ⟨S256, .i1⟩
  | .hbm, ⟨74, _⟩ => ⟨S_, .i32⟩
  | .hbm, ⟨75, _⟩ => ⟨S256, .i32⟩
  | .hbm, ⟨76, _⟩ => ⟨S256, .i32⟩
  | .hbm, ⟨77, _⟩ => ⟨S256, .i32⟩
  | .hbm, ⟨78, _⟩ => ⟨S256x1, .i32⟩
  | .hbm, ⟨79, _⟩ => ⟨S256x128x256, .f32⟩
  | .hbm, ⟨80, _⟩ => ⟨S256x256, .f32⟩
  | .hbm, ⟨81, _⟩ => ⟨S256, .f32⟩
  | .hbm, ⟨82, _⟩ => ⟨S256x1, .f32⟩
  | .hbm, ⟨83, _⟩ => ⟨S256x256, .f32⟩
  | .hbm, ⟨84, _⟩ => ⟨S256x256, .f32⟩
  | .hbm, ⟨85, _⟩ => ⟨S256, .f32⟩
  | .hbm, ⟨86, _⟩ => ⟨S256x1, .f32⟩
  | .hbm, ⟨87, _⟩ => ⟨S256x256, .f32⟩
  | .hbm, ⟨88, _⟩ => ⟨S256x256, .f32⟩
  | .hbm, ⟨89, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Ideal.Mesh.lean ====
/-
The mesh of sixteen devices: who talks to whom, and through which part of which buffer.

Device `c` holds a partial result of 256 rows, sixteen for each device.  Its `k`-th copy (k = 0 … 14) takes the
sixteen rows of device `up k c = c + k + 1` into slot `k` of that device's receive buffer; so slot `k` of
device `d` is filled by `dn k d = d - k - 1`.  This module has the arithmetic of these two maps, the row blocks of
the partial result, the slots of the receive buffer, and what a landed copy leaves in a slot.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Pointwise.Index
public import Idealize.ShloMosaic.Lib.Tactic

@[expose] public section

noncomputable section

namespace Cert.KernelIdeal.Moe

open Cert.KernelIdeal Cert.KernelIdeal.Gen

open Idealize.ShloMosaic
open Idealize.ShloMosaic.TcCoe

variable {F : FTy → Type} [FloatOps F]

/-! ## The ring arithmetic -/

/-- The device `k + 1` steps after `c`: the target of `c`'s copy number `k`. -/
def up (k : Fin 15) (c : Dev nD) : Dev nD := ⟨(c.val + k.val + 1) % 16, Nat.mod_lt _ (by decide)⟩
/-- The device `k + 1` steps before `c`: the source of the copy that fills `c`'s slot `k`. -/
def dn (k : Fin 15) (c : Dev nD) : Dev nD := ⟨(c.val + 15 - k.val) % 16, Nat.mod_lt _ (by decide)⟩
/-- Going up `rev k + 1` steps is going down `k + 1` steps. -/
def rev (k : Fin 15) : Fin 15 := ⟨14 - k.val, by omega⟩

theorem rev_rev (k : Fin 15) : rev (rev k) = k := Fin.ext (by simp only [rev]; omega)
theorem dn_up (k : Fin 15) (c : Dev nD) : dn k (up k c) = c := by revert k c; decide +kernel
theorem up_dn (k : Fin 15) (c : Dev nD) : up k (dn k c) = c := by revert k c; decide +kernel
theorem up_rev (k : Fin 15) (c : Dev nD) : up (rev k) c = dn k c := by revert k c; decide +kernel
theorem up_ne (k : Fin 15) (c : Dev nD) : up k c ≠ c := by revert k c; decide +kernel
theorem up_inj (c : Dev nD) {k k' : Fin 15} (h : up k c = up k' c) : k = k' := by revert k k' c; decide +kernel

/-- For a fixed `k`, stepping is a bijection of the devices. -/
def step (k : Fin 15) : Dev nD ≃ Dev nD := ⟨up k, dn k, dn_up k, up_dn k⟩
def flip : Fin 15 ≃ Fin 15 := ⟨rev, rev, rev_rev, rev_rev⟩

/-- Every device but `c` is `up k c` for one `k`. -/
theorem exists_up (c d : Dev nD) (h : d ≠ c) : ∃ k, up k c = d := by revert c d; decide +kernel

/-! ## The row blocks of the partial result -/

/-- The partial result and the receive buffer, whole. -/
abbrev pM : Memref sig .tc .vmem S256x256 .bf16 := Memref.whole cc0_scratch0
abbrev rM : Memref sig .tc .vmem S15x16x256 .bf16 := Memref.whole cc0_scratch1

/-- Where device `d`'s sixteen rows start. -/
def rowOff (d : Dev nD) : Fin 2 → ℕ := ![16 * d.val, 0]
theorem rowOff_inb (d : Dev nD) : ∀ a, rowOff d a + S16x256.size a ≤ S256x256.size a := by revert d; decide +kernel
/-- Device `d`'s sixteen rows. -/
abbrev rowRect (d : Dev nD) : Rect S256x256 := Rect.unit (s := S256x256) (rowOff d) S16x256.size (rowOff_inb d)
abbrev rowM (d : Dev nD) : Memref sig .tc .vmem S16x256 .bf16 := pM.slice (rowRect d) (fun _ => rfl)

/-- Where slot `k` starts. -/
def slotOff (k : Fin 15) : Fin 3 → ℕ := ![k.val, 0, 0]
theorem slotOff_inb (k : Fin 15) : ∀ a, slotOff k a + S1x16x256.size a ≤ S15x16x256.size a := by revert k; decide +kernel
abbrev slotRect (k : Fin 15) : Rect S15x16x256 := Rect.unit (s := S15x16x256) (slotOff k) S1x16x256.size (slotOff_inb k)
/-- Slot `k` of the receive buffer, as a copy addresses it: sixteen rows. -/
abbrev slotM (k : Fin 15) : Memref sig .tc .vmem S16x256 .bf16 :=
  (rM.slice (slotRect k) (fun _ => rfl)).squeeze S16x256 squeezes_S1x16x256_S16x256

/-- The elements of device `d`'s rows, and of slot `k`. -/
abbrev rowSet (d : Dev nD) : Finset S256x256.Idx := (rowM d).view.set
abbrev slotSet (k : Fin 15) : Finset S15x16x256.Idx := (slotM k).view.set

theorem row_set (d : Dev nD) : rowSet d = (rowRect d).set := View.set_slice_whole _ _
theorem slot_set (k : Fin 15) : slotSet k = (slotRect k).set :=
  (View.set_reshape _ _).trans (View.set_slice_whole _ _)

theorem row_disjoint (d d' : Dev nD) (h : d ≠ d') : Disjoint (rowSet d) (rowSet d') := by
  rw [row_set, row_set]
  exact Ring.lead_disjoint (s := S256x256) (0 : Fin 2) 16 rowOff S16x256.size rowOff_inb (fun _ => rfl) rfl d d' h

theorem row_cover : Finset.univ.biUnion rowSet = Finset.univ := by
  rw [show rowSet = fun d => (rowRect d).set from funext row_set]
  exact Ring.lead_cover (s := S256x256) (0 : Fin 2) 16 rowOff S16x256.size rowOff_inb (fun _ => rfl)
    (fun d a h => by fin_cases a; exact absurd rfl h; rfl) rfl (fun a h => by fin_cases a; exact absurd rfl h; rfl) rfl

theorem slot_disjoint (k k' : Fin 15) (h : k ≠ k') : Disjoint (slotSet k) (slotSet k') := by
  rw [slot_set, slot_set]
  exact Ring.lead_disjoint (s := S15x16x256) (0 : Fin 3) 1 slotOff S1x16x256.size slotOff_inb
    (fun k => by simp [slotOff]) rfl k k' h

theorem slot_cover : Finset.univ.biUnion slotSet = Finset.univ := by
  rw [show slotSet = fun k => (slotRect k).set from funext slot_set]
  exact Ring.lead_cover (s := S15x16x256) (0 : Fin 3) 1 slotOff S1x16x256.size slotOff_inb (fun k => by simp [slotOff])
    (fun d a h => by fin_cases a; exact absurd rfl h; rfl; rfl) rfl
    (fun a h => by fin_cases a; exact absurd rfl h; rfl; rfl) rfl

/-! ## What the copies leave -/

theorem row_lt (d : Dev nD) (r : Fin 16) : 16 * d.val + r.val < 256 := by
  have h1 : d.val < 16 := d.isLt
  have h2 := r.isLt
  omega

/-- The receive buffer of device `d` when every copy has landed, from the partial results `P`: slot `k` holds the rows
    of device `d` in the partial result of device `dn k d`. -/
def landed (P : Dev nD → (cc0_scratch0 : Ref sig .tc).ty.Contents (Elt F)) (d : Dev nD) :
    (cc0_scratch1 : Ref sig .tc).ty.Contents (Elt F) :=
  fun i : S15x16x256.Idx => P (dn (i 0) d)
    (ix2 (n0 := 256) (n1 := 256) ⟨16 * d.val + (i 1).val, row_lt d (i 1)⟩ (i 2))

/-- Where element `(r, o)` of slot `k` lies in the receive buffer. -/
theorem slot_emb (k : Fin 15) (x : S16x256.Idx) :
    ((slotM k).view.emb x : S15x16x256.Idx) = ix3 (n0 := 15) (n1 := 16) (n2 := 256) k (x 0) (x 1) := by
  have h : ((slotM k).view.emb x : S15x16x256.Idx)
      = (slotRect k).emb (Shape.reshapeEquiv squeezes_S1x16x256_S16x256.numel_eq x) := rfl
  rw [h, show Shape.reshapeEquiv squeezes_S1x16x256_S16x256.numel_eq x = (Fin.cons ⟨0, Nat.one_pos⟩ x : S1x16x256.Idx)
    from Shape.reshapeEquiv_cons_one (d := ![16, 256]) _ x]
  funext a
  apply Fin.ext
  rw [Rect.emb_apply]
  fin_cases a
  · show k.val + 1 * 0 = k.val; omega
  · show 0 + 1 * (x 0).val = (x 0).val; omega
  · show 0 + 1 * (x 1).val = (x 1).val; omega

/-- Where element `(r, o)` of device `d`'s rows lies in the partial result. -/
theorem row_emb (d : Dev nD) (x : S16x256.Idx) :
    ((rowM d).view.emb x : S256x256.Idx) = ix2 (n0 := 256) (n1 := 256) ⟨16 * d.val + (x 0).val, row_lt d (x 0)⟩ (x 1) := by
  have h : ((rowM d).view.emb x : S256x256.Idx) = (rowRect d).emb x := rfl
  rw [h]
  funext a
  apply Fin.ext
  rw [Rect.emb_apply]
  fin_cases a
  · show 16 * d.val + 1 * (x 0).val = 16 * d.val + (x 0).val; omega
  · show 0 + 1 * (x 1).val = (x 1).val; omega

omit [FloatOps F] in
/-- Writing the rows of device `d`, read from device `dn k d`'s partial result, into slot `k` makes the slot hold what
    `landed` says it holds. -/
theorem landed_eq (P : Dev nD → (cc0_scratch0 : Ref sig .tc).ty.Contents (Elt F)) (d : Dev nD) (k : Fin 15)
    (fd : (cc0_scratch1 : Ref sig .tc).ty.Contents (Elt F)) :
    ∀ i ∈ (slotM k).view.set, (slotM k).view.write (Elt F) fd ((rowM d).view.read (Elt F) (P (dn k d))) Finset.univ i = landed P d i := by
  intro i hi
  obtain ⟨x, -, rfl⟩ := Finset.mem_map.mp hi
  rw [View.write_emb_of_mem _ _ (Finset.mem_univ _)]
  show P (dn k d) ((rowM d).view.emb x) = landed P d ((slotM k).view.emb x : S15x16x256.Idx)
  rw [slot_emb, row_emb]
  rfl

/-! ## The memory operations' own offsets -/

/-- The kernel's row offset of copy `k` is where the rows of device `up k c` start. -/
theorem off1_eq (c : Dev nD) (k : Fin 15) : k0_off1 c (BitVec.ofNat 32 (1 + k.val)) = rowOff (up k c) := by
  revert c k; decide +kernel
/-- The kernel's offset of its own rows. -/
theorem off2_eq (c : Dev nD) : k0_off2 c = rowOff c := by revert c; decide +kernel

end Cert.KernelIdeal.Moe

end
-- ==== Proof.Ideal.Schedule.lean ====
/-
The protocol of the sixteen devices.

Each device has a barrier semaphore, fifteen send semaphores and fifteen receive semaphores.

* Barrier of `c`: fifteen duties of one unit.  Duty `d` is paid by `up d c`, who hands over slot `d` of its own receive
  buffer: `c` may now copy into it.
* Send semaphore `k` of `c`: one duty, paid when the copy has read its source; it hands back the rows of `up k c`.
* Receive semaphore `k` of `c`: one duty, paid when the copy into slot `k` has landed; it hands over the slot filled.

Every cell has one round.  Levels: send semaphores 0, barriers 1, receive semaphores 2; a device waits on a cell only
when all it owes lies above that cell.
-/
module

public import proofs.«01_k».proof.Proof.Ideal.Mesh

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The runtime's barrier semaphore, the send semaphores and the receive semaphores. -/
abbrev barS : Sem sig := (SemArray.scalar (sig.barrier 0 rfl) : Sems sig S_).sem
def sendS (k : Fin 15) : DmaSem sig := ⟨5 + k.val, by show 5 + k.val < 35; omega⟩
def recvS (k : Fin 15) : DmaSem sig := ⟨20 + k.val, by show 20 + k.val < 35; omega⟩

abbrev barCell (c : Dev nD) : GSem nD τ sig := ((c : Thread nD τ), .reg barS)
abbrev sendCell (c : Dev nD) (k : Fin 15) : GSem nD τ sig := ((c : Thread nD τ), .dma (sendS k))
abbrev recvCell (c : Dev nD) (k : Fin 15) : GSem nD τ sig := ((c : Thread nD τ), .dma (recvS k))

/-- The copy semaphores: `(false, k)` sends, `(true, k)` receives; -/
def osem : Bool × Fin 15 → SemLoc sig
  | (false, k) => .dma (sendS k)
  | (true, k) => .dma (recvS k)
/-- and all of a device's cells, the barrier first. -/
def csem : Option (Bool × Fin 15) → SemLoc sig
  | none => .reg barS
  | some bk => osem bk
abbrev kcell (ck : Dev nD × Option (Bool × Fin 15)) : GSem nD τ sig := ((ck.1 : Thread nD τ), csem ck.2)

theorem recvS_ne_sendS (k k' : Fin 15) : recvS k ≠ sendS k' := fun h => by
  have := congrArg Fin.val h; simp only [recvS, sendS] at this; omega
theorem recvS_inj {k k' : Fin 15} (h : recvS k = recvS k') : k = k' := by
  have := congrArg Fin.val h; simp only [recvS] at this; omega
theorem sendS_inj {k k' : Fin 15} (h : sendS k = sendS k') : k = k' := by
  have := congrArg Fin.val h; simp only [sendS] at this; omega
theorem dma_inj {q q' : DmaSem sig} (h : (SemLoc.dma q : SemLoc sig) = .dma q') : q = q' := by cases h; rfl

theorem csem_injective : Function.Injective csem := by
  rintro (_ | ⟨_ | _, k⟩) (_ | ⟨_ | _, k'⟩) h
  · rfl
  · cases h
  · cases h
  · cases h
  · rw [show k = k' from sendS_inj (dma_inj h)]
  · exact absurd (dma_inj h).symm (recvS_ne_sendS _ _)
  · cases h
  · exact absurd (dma_inj h) (recvS_ne_sendS _ _)
  · rw [show k = k' from recvS_inj (dma_inj h)]

/-- The number a copy semaphore has among its fifteen. -/
def numOf (q : DmaSem sig) : Fin 15 := ⟨(q.val - 5) % 15, Nat.mod_lt _ (by decide)⟩
theorem numOf_sendS (k : Fin 15) : numOf (sendS k) = k := Fin.ext (by simp only [numOf, sendS]; omega)
theorem numOf_recvS (k : Fin 15) : numOf (recvS k) = k := Fin.ext (by simp only [numOf, recvS]; omega)

/-- The units one copy raises its semaphores by. -/
abbrev N : ℕ := (slotM 0).view.dmaCredit
theorem N_pos : 0 < N := View.dmaCredit_pos _ (by decide)

/-! ## The payloads -/

variable (P : Dev nD → (cc0_scratch0 : Ref sig .tc).ty.Contents (Elt F))

/-- Device `c` has slot `k` of its receive buffer, holding `f`. -/
def slotPts (c : Dev nD) (k : Fin 15) (f : (cc0_scratch1 : Ref sig .tc).ty.Contents (Elt F)) : sProp 𝕄 :=
  (slotM k).view.loc (c : Thread nD τ) ↦[(slotM k).view.set]{fullShare} f
/-- Device `c` has the rows of device `d` of its partial result, holding `f`. -/
def rowPts (c d : Dev nD) (f : (cc0_scratch0 : Ref sig .tc).ty.Contents (Elt F)) : sProp 𝕄 :=
  (rowM d).view.loc (c : Thread nD τ) ↦[(rowM d).view.set]{fullShare} f

omit [FloatOps F] in
instance slotPts_storable (c : Dev nD) (k) (f) : BI.Storable (upEmb : UEmb _ 𝕄) (slotPts (F := F) c k f) := by
  unfold slotPts; infer_instance
omit [FloatOps F] in
instance rowPts_storable (c d : Dev nD) (f) : BI.Storable (upEmb : UEmb _ 𝕄) (rowPts (F := F) c d f) := by
  unfold rowPts; infer_instance

/-- What a barrier duty hands over, what a send duty hands back, what a receive duty hands over. -/
def barPay (c : Dev nD) (d : Fin 15) : sProp 𝕄 := iprop(∃ f, slotPts (up d c) d f)
def sendPay (c : Dev nD) (k : Fin 15) : sProp 𝕄 := rowPts c (up k c) (P c)
def recvPay (c : Dev nD) (k : Fin 15) : sProp 𝕄 := slotPts c k (landed P c)

omit [FloatOps F] in
instance barPay_storable (c : Dev nD) (d) : BI.Storable (upEmb : UEmb _ 𝕄) (barPay (F := F) c d) := by
  unfold barPay; infer_instance
omit [FloatOps F] in
instance sendPay_storable (c : Dev nD) (k) : BI.Storable (upEmb : UEmb _ 𝕄) (sendPay P c k) := by unfold sendPay; infer_instance
omit [FloatOps F] in
instance recvPay_storable (c : Dev nD) (k) : BI.Storable (upEmb : UEmb _ 𝕄) (recvPay P c k) := by unfold recvPay; infer_instance

def dutiesAt : SemLoc sig → Finset (Fin 15)
  | .reg s => if s = barS then Finset.univ else ∅
  | .dma q => if 5 ≤ q.val then {0} else ∅
def amountAt : SemLoc sig → ℕ
  | .reg _ => 1
  | .dma _ => N
def payAt (c : Dev nD) (d : Fin 15) : SemLoc sig → sProp 𝕄
  | .reg _ => barPay c d
  | .dma q => if q.val < 20 then sendPay P c (numOf q) else recvPay P c (numOf q)

/-- The schedule: one round, with the duties, amounts and payloads above. -/
def sched : Rounds.Schedule (GSem nD τ sig) (Fin 15) 𝕄 where
  duties g r := if r = 0 ∧ g.1.2 = .tc then dutiesAt g.2 else ∅
  unitless _ := False
  amount g _ _ := amountAt g.2
  payload g _ d := payAt P g.1.1 d g.2
  amount_pos g _ _ _ := by
    rcases g with ⟨_, _ | _⟩
    · exact Nat.one_pos
    · exact N_pos

instance sched_storable (g : GSem nD τ sig) (r : ℕ) (d : Fin 15) :
    BI.Storable (upEmb : UEmb _ 𝕄) ((sched (F := F) P).payload g r d) := by
  show BI.Storable upEmb (payAt P g.1.1 d g.2)
  rcases g with ⟨_, _ | q⟩
  · exact barPay_storable _ _
  · show BI.Storable upEmb (if q.val < 20 then sendPay P _ (numOf q) else recvPay P _ (numOf q))
    split <;> infer_instance

section Sched
variable (c : Dev nD) (k : Fin 15)

omit [FloatOps F] in
theorem duties_bar : (sched (F := F) P).duties (barCell c) 0 = Finset.univ := by
  show (if 0 = 0 ∧ (barCell c).1.2 = .tc then dutiesAt (barCell c).2 else ∅) = _
  rw [if_pos ⟨rfl, rfl⟩]
  show (if barS = barS then (Finset.univ : Finset (Fin 15)) else ∅) = _
  rw [if_pos rfl]
omit [FloatOps F] in
theorem duties_send : (sched (F := F) P).duties (sendCell c k) 0 = {0} := by
  show (if 0 = 0 ∧ (sendCell c k).1.2 = .tc then dutiesAt (sendCell c k).2 else ∅) = _
  rw [if_pos ⟨rfl, rfl⟩]
  exact if_pos (by simp only [sendS]; omega)
omit [FloatOps F] in
theorem duties_recv : (sched (F := F) P).duties (recvCell c k) 0 = {0} := by
  show (if 0 = 0 ∧ (recvCell c k).1.2 = .tc then dutiesAt (recvCell c k).2 else ∅) = _
  rw [if_pos ⟨rfl, rfl⟩]
  exact if_pos (by simp only [recvS]; omega)
omit [FloatOps F] in
theorem duties_later (g : GSem nD τ sig) : ∀ r, 1 ≤ r → (sched (F := F) P).duties g r = ∅ :=
  fun r hr => if_neg fun h => by omega

omit [FloatOps F] in
theorem expect_bar : (sched (F := F) P).expect (barCell c) 0 = 15 := by
  unfold Schedule.expect Schedule.amountOf
  rw [duties_bar, Finset.sum_congr rfl fun d _ => (show (sched (F := F) P).amount (barCell c) 0 d = 1 from rfl), Finset.sum_const,
    Finset.card_univ, Fintype.card_fin, smul_eq_mul]
omit [FloatOps F] in
theorem expect_send : (sched (F := F) P).expect (sendCell c k) 0 = N := by
  unfold Schedule.expect Schedule.amountOf; rw [duties_send, Finset.sum_singleton]; rfl
omit [FloatOps F] in
theorem expect_recv : (sched (F := F) P).expect (recvCell c k) 0 = N := by
  unfold Schedule.expect Schedule.amountOf; rw [duties_recv, Finset.sum_singleton]; rfl

omit [FloatOps F] in
theorem payload_bar (d : Fin 15) : (sched (F := F) P).payload (barCell c) 0 d = barPay c d := rfl
omit [FloatOps F] in
theorem payload_send (d : Fin 15) : (sched (F := F) P).payload (sendCell c k) 0 d = sendPay P c k := by
  show (if (sendS k).val < 20 then sendPay P c (numOf (sendS k)) else recvPay P c (numOf (sendS k))) = _
  rw [if_pos (by simp only [sendS]; omega), numOf_sendS]
omit [FloatOps F] in
theorem payload_recv (d : Fin 15) : (sched (F := F) P).payload (recvCell c k) 0 d = recvPay P c k := by
  show (if (recvS k).val < 20 then sendPay P c (numOf (recvS k)) else recvPay P c (numOf (recvS k))) = _
  rw [if_neg (by simp only [recvS]; omega), numOf_recvS]

omit [FloatOps F] in
/-- What the one wait on each cell brings. -/
theorem rest_bar : bigSep ((sched (F := F) P).duties (barCell c) 0 \ ∅) (fun d => (sched (F := F) P).payload (barCell c) 0 d)
    = bigSep Finset.univ fun d => barPay c d := by
  rw [Finset.sdiff_empty, duties_bar]; rfl
omit [FloatOps F] in
theorem rest_send : bigSep ((sched (F := F) P).duties (sendCell c k) 0 \ ∅) (fun d => (sched (F := F) P).payload (sendCell c k) 0 d)
    = sendPay P c k := by
  rw [Finset.sdiff_empty, duties_send, bigSep_singleton, payload_send]
omit [FloatOps F] in
theorem rest_recv : bigSep ((sched (F := F) P).duties (recvCell c k) 0 \ ∅) (fun d => (sched (F := F) P).payload (recvCell c k) 0 d)
    = recvPay P c k := by
  rw [Finset.sdiff_empty, duties_recv, bigSep_singleton, payload_recv]

end Sched

/-! ## What is left to do of fifteen things, and what is done -/

/-- The things from number `j` on; the things before number `j`. -/
def todo (Φ : Fin 15 → sProp 𝕄) (j : ℕ) : sProp 𝕄 := bigSep (Finset.univ.filter fun k : Fin 15 => j ≤ k.val) Φ
def done (Φ : Fin 15 → sProp 𝕄) (j : ℕ) : sProp 𝕄 := bigSep (Finset.univ.filter fun k : Fin 15 => k.val < j) Φ

theorem from_peel (k : Fin 15) :
    (Finset.univ.filter fun k' : Fin 15 => k.val ≤ k'.val) = insert k (Finset.univ.filter fun k' : Fin 15 => k.val + 1 ≤ k'.val) := by
  revert k; decide
theorem upto_push (k : Fin 15) :
    (Finset.univ.filter fun k' : Fin 15 => k'.val < k.val + 1) = insert k (Finset.univ.filter fun k' : Fin 15 => k'.val < k.val) := by
  revert k; decide

omit [FloatOps F] in
theorem todo_peel (Φ : Fin 15 → sProp 𝕄) (k : Fin 15) : todo Φ k.val = iprop(Φ k ∗ todo Φ (k.val + 1)) := by
  unfold todo; rw [from_peel]; exact bigSep_insert (by simp)
omit [FloatOps F] in
theorem done_push (Φ : Fin 15 → sProp 𝕄) (k : Fin 15) : done Φ (k.val + 1) = iprop(Φ k ∗ done Φ k.val) := by
  unfold done; rw [upto_push]; exact bigSep_insert (by simp)
omit [FloatOps F] in
theorem todo_zero (Φ : Fin 15 → sProp 𝕄) : todo Φ 0 = bigSep Finset.univ Φ := by
  unfold todo; rw [show (Finset.univ.filter fun k : Fin 15 => 0 ≤ k.val) = Finset.univ by decide]
omit [FloatOps F] in
theorem done_all (Φ : Fin 15 → sProp 𝕄) : done Φ 15 = bigSep Finset.univ Φ := by
  unfold done; rw [show (Finset.univ.filter fun k : Fin 15 => k.val < 15) = Finset.univ by decide]
omit [FloatOps F] in
theorem todo_all (Φ : Fin 15 → sProp 𝕄) : todo Φ 15 = iprop(emp) := by
  unfold todo; rw [show (Finset.univ.filter fun k : Fin 15 => 15 ≤ k.val) = ∅ by decide]; exact bigSep_empty
omit [FloatOps F] in
theorem done_zero (Φ : Fin 15 → sProp 𝕄) : done Φ 0 = iprop(emp) := by
  unfold done; rw [show (Finset.univ.filter fun k : Fin 15 => k.val < 0) = ∅ by decide]; exact bigSep_empty

/-! ## What each device owes -/

/-- The barrier units device `c` still owes at its signal number `j`, and the copies at its copy number `j`. -/
def oBar (c : Dev nD) (j : ℕ) : CellTallies nD τ sig Unit :=
  ∑ k ∈ Finset.univ.filter (fun k : Fin 15 => j ≤ k.val), tallyAt (barCell (up k c)) () 1
def oRecv (c : Dev nD) (j : ℕ) : CellTallies nD τ sig Unit :=
  ∑ k ∈ Finset.univ.filter (fun k : Fin 15 => j ≤ k.val), tallyAt (recvCell (up k c) k) () N
/-- What it owes at launch. -/
def O₀ (c : Dev nD) : CellTallies nD τ sig Unit := oBar c 0 + oRecv c 0

theorem oBar_peel (c : Dev nD) (k : Fin 15) : oBar c k.val = oBar c (k.val + 1) + tallyAt (barCell (up k c)) () 1 := by
  unfold oBar; rw [from_peel, Finset.sum_insert (by simp), add_comm]
theorem oRecv_peel (c : Dev nD) (k : Fin 15) : oRecv c k.val = oRecv c (k.val + 1) + tallyAt (recvCell (up k c) k) () N := by
  unfold oRecv; rw [from_peel, Finset.sum_insert (by simp), add_comm]
theorem oBar_all (c : Dev nD) : oBar c 15 = 0 := by
  unfold oBar; rw [show (Finset.univ.filter fun k : Fin 15 => 15 ≤ k.val) = ∅ by decide, Finset.sum_empty]
theorem oRecv_all (c : Dev nD) : oRecv c 15 = 0 := by
  unfold oRecv; rw [show (Finset.univ.filter fun k : Fin 15 => 15 ≤ k.val) = ∅ by decide, Finset.sum_empty]

theorem oBar_pos {c : Dev nD} {j : ℕ} {g : GSem nD τ sig} {u : Unit} (h : 0 < oBar c j g u) : ∃ k, g = barCell (up k c) := by
  by_contra hn
  unfold oBar at h
  rw [Finset.sum_apply, Finsupp.finset_sum_apply, Finset.sum_eq_zero fun k _ => by
    rw [tallyAt_apply, if_neg fun h' => hn ⟨k, h'.1⟩]] at h
  exact Nat.lt_irrefl 0 h
theorem oRecv_pos {c : Dev nD} {j : ℕ} {g : GSem nD τ sig} {u : Unit} (h : 0 < oRecv c j g u) :
    ∃ k, g = recvCell (up k c) k := by
  by_contra hn
  unfold oRecv at h
  rw [Finset.sum_apply, Finsupp.finset_sum_apply, Finset.sum_eq_zero fun k _ => by
    rw [tallyAt_apply, if_neg fun h' => hn ⟨k, h'.1⟩]] at h
  exact Nat.lt_irrefl 0 h
theorem O₀_pos {c : Dev nD} {g : GSem nD τ sig} {u : Unit} (h : 0 < O₀ c g u) :
    (∃ k, g = barCell (up k c)) ∨ ∃ k, g = recvCell (up k c) k := by
  unfold O₀ at h
  rw [Pi.add_apply, Finsupp.add_apply] at h
  rcases Nat.eq_zero_or_pos (oBar c 0 g u) with h0 | h0
  · exact Or.inr (oRecv_pos (by rw [h0, Nat.zero_add] at h; exact h))
  · exact Or.inl (oBar_pos h0)

/-! ## Levels -/

def L (g : GSem nD τ sig) : Finset Unit := if g.1.2 = .tc then {()} else ∅
def lvAt : SemLoc sig → ℕ
  | .reg _ => 1
  | .dma q => if 20 ≤ q.val then 2 else 0
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (k : Fin 15) : lv (recvCell c k) () = 2 := if_pos (by simp only [recvS]; omega)

omit [FloatOps F] in
/-- A device may wait on a staging semaphore while it owes all its launch duties, or nothing. -/
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; show (if 20 ≤ q.val then 2 else 0) ≤ 0
        rw [if_neg (by omega)])
      (fun g u hg => by
        rcases O₀_pos hg with ⟨k, rfl⟩ | ⟨k, rfl⟩
        · rw [lv_bar]; decide
        · rw [lv_recv]; decide)
  · rw [MayWait_zero]; iintro -; iempintro

omit [FloatOps F] in
/-- At its barrier wait a device owes copies only, and receive semaphores lie above barriers. -/
theorem mayWait_bar (c : Dev nD) : (levAts L lv : sProp 𝕄) ⊢ MayWait (c : Thread nD τ) (.reg barS) () (oRecv c 0) :=
  MayOwe.of_cut (L := L) (lev := lv) 1 (fun p hp => by rw [Finset.mem_singleton.mp hp, L_tc]; exact Finset.mem_singleton_self _)
    (fun g u hg => by obtain ⟨k, rfl⟩ := oRecv_pos hg; exact Finset.mem_singleton_self _)
    (fun p hp => by rw [Finset.mem_singleton.mp hp]; exact Nat.le_refl 1)
    (fun g u hg => by obtain ⟨k, rfl⟩ := oRecv_pos hg; rw [lv_recv]; decide)

end Cert.KernelIdeal.Moe

end
-- ==== Proof.Ideal.Steps.lean ====
/-
The five phases of the kernel's body, one step each.

A device signals fifteen barriers, waits on its own, starts fifteen copies, waits for fifteen copies to land and reads
each, and waits until its own fifteen copies have been read.  Each phase has a state indexed by how many of its fifteen
steps are done, and one theorem that takes any step.
-/
module

public import proofs.«01_k».proof.Proof.Ideal.Schedule

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Dev nD → (cc0_scratch0 : Ref sig .tc).ty.Contents (Elt F))

/-! ## What every device knows -/

abbrev Names : Type := Dev nD × Option (Bool × Fin 15) → ℕ

/-- Every cell's invariant, and that every cell has reached its round. -/
def records (K : Names) : sProp 𝕄 :=
  iprop((bigSep Finset.univ fun ck : Dev nD × Option (Bool × Fin 15) => cellInv ER (sched P) (K ck) (kcell ck))
    ∗ bigSep Finset.univ fun ck : Dev nD × Option (Bool × Fin 15) => reached ER (kcell ck) 0)

instance records_persistent (K : Names) : BI.Persistent (records P K) := by unfold records; infer_instance

omit [FloatOps F] in
theorem inv_at (K : Names) (ck : Dev nD × Option (Bool × Fin 15)) : records P K ⊢ cellInv ER (sched P) (K ck) (kcell ck) := by
  unfold records; iintro ⟨H, -⟩
  iapply (show (bigSep Finset.univ fun ck : Dev nD × Option (Bool × Fin 15) => (cellInv ER (sched P) (K ck) (kcell ck) : sProp 𝕄))
    ⊢ cellInv ER (sched P) (K ck) (kcell ck) from bigSep_elim (Finset.mem_univ ck))
  iexact H
omit [FloatOps F] in
theorem reached_at (K : Names) (ck : Dev nD × Option (Bool × Fin 15)) : records P K ⊢ (reached ER (kcell ck) 0 : sProp 𝕄) := by
  unfold records; iintro ⟨-, H⟩
  iapply (show (bigSep Finset.univ fun ck : Dev nD × Option (Bool × Fin 15) => (reached ER (kcell ck) 0 : sProp 𝕄))
    ⊢ reached ER (kcell ck) 0 from bigSep_elim (Finset.mem_univ ck))
  iexact H

/-- Device `c` owes `O`, whatever it has waited for. -/
def owesE (c : Dev nD) (O : CellTallies nD τ sig Unit) : sProp 𝕄 := iprop(∃ W, owes (c : Thread nD τ) O W)

/-! ## Phase one: the signals -/

/-- The token device `c` pays its signal `k` with, and the slot it gives away. -/
def barTok (c : Dev nD) (k : Fin 15) : sProp 𝕄 := dutyTok ER (barCell (up k c)) 0 (rev k)
def give (c : Dev nD) (k : Fin 15) : sProp 𝕄 := iprop(∃ f, slotPts c (rev k) f)

def SigSt (c : Dev nD) (j : ℕ) : sProp 𝕄 := iprop(owesE c (oBar c j + oRecv c 0) ∗ todo (barTok c) j ∗ todo (give c) j)

omit [FloatOps F] in
theorem give_pay (c : Dev nD) (k : Fin 15) : (give c k : sProp 𝕄) = barPay (up k c) (rev k) := by
  unfold give barPay; rw [up_rev, dn_up]

/-- Signal number `j`. -/
theorem signal_step (K : Names) (c : Dev nD) (k : Fin 15) (j : ℕ) (hj : j = k.val) {n : Dev nD} (hn : n = up k c) {a : ℕ} (ha : a = 1)
    {α : Type} {Q : α → sProp 𝕄} {cont : PUnit → Prog (TpuEff nD τ sig (Elt F) Λ₀ .tc) α} {R : sProp 𝕄}
    (h : iprop(records P K ∗ SigSt c (j + 1) ∗ R) ⊢ wp frame (wpE (defs₀ (F := F)) 𝒱₀ (c : Thread nD τ) none) Set.univ (cont ⟨⟩) Q) :
    iprop(records P K ∗ SigSt c j ∗ R)
      ⊢ wp frame (wpE (defs₀ (F := F)) 𝒱₀ (c : Thread nD τ) none) Set.univ (.op (.semSignal (n : Thread nD τ) barS a) cont) Q := by
  subst hn ha hj
  unfold SigSt at h ⊢
  rw [todo_peel (barTok c) k, todo_peel (give c) k]
  unfold owesE at h ⊢
  iintro ⟨#Hrec, ⟨⟨%W, HO⟩, ⟨Htok, Htoks⟩, ⟨Hg, Hgs⟩⟩, HR⟩
  iapply (Rounds.wp_signal 𝒱₀ ER (sched P) (c : Thread nD τ) none (dst := (up k c : Thread nD τ)) (κ := K (up k c, none))
      (d := rev k) (k' := 1) (O₀ := oBar c k.val + oRecv c 0) (by rw [duties_bar]; exact Finset.mem_univ _) rfl () (oBar c (k.val + 1) + oRecv c 0)
      (by rw [oBar_peel]; exact add_right_comm _ _ _))
    $$ [HO Htok Hg]
  · isplitr; · iapply (inv_at P K (up k c, none)); iexact Hrec
    isplitl [HO]; · iexact HO
    isplitl [Htok]; · unfold barTok; iexact Htok
    isplitl [Hg]; · rw [payload_bar, ← give_pay]; iexact Hg
    iapply (reached_at P K (up k c, none)); iexact Hrec
  iintro HO
  iapply h
  isplitr; · iexact Hrec
  isplitr [HR]
  · isplitl [HO]; · iexists W; iexact HO
    isplitl [Htoks] <;> iassumption
  iexact HR

/-! ## Phase two: the wait on its own barrier -/

theorem bar_step (K : Names) (c : Dev nD) {a : ℕ} (ha : a = 15)
    {α : Type} {Q : α → sProp 𝕄} {cont : PUnit → Prog (TpuEff nD τ sig (Elt F) Λ₀ .tc) α} {R : sProp 𝕄}
    (h : iprop(records P K ∗ (owesE c (oRecv c 0) ∗ atPos ER (barCell c) 1 ∅ 0 ∗ todo (barPay c) 0) ∗ R)
      ⊢ wp frame (wpE (defs₀ (F := F)) 𝒱₀ (c : Thread nD τ) none) Set.univ (cont ⟨⟩) Q) :
    iprop(records P K ∗ (owesE c (oRecv c 0) ∗ atPos ER (barCell c) 0 ∅ 0 ∗ cred (tallyAt (barCell c) () 15) ∗ levAts L lv) ∗ R)
      ⊢ wp frame (wpE (defs₀ (F := F)) 𝒱₀ (c : Thread nD τ) none) Set.univ (.op (.semWait barS a) cont) Q := by
  subst ha
  unfold owesE at h ⊢
  iintro ⟨#Hrec, ⟨⟨%W, HO⟩, Hat, Hc, #Hlev⟩, HR⟩
  iapply (Rounds.wp_wait_rest_token 𝒱₀ ER (sched P) (c : Thread nD τ) none (κ := K (c, none))
      (wpE_semWait_eq 𝒱₀ (c : Thread nD τ) none Set.univ) (Set.mem_univ _) () (O := oRecv c 0) (W := W) (R := 0) (m := 0) (T := ∅)
      (by rw [expect_bar])) $$ [Hc HO Hat]
  · isplitr; · iapply (inv_at P K (c, none)); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar P c)) $$ Hpay
  iapply h
  isplitr; · iexact Hrec
  isplitr [HR]
  · isplitl [HO]; · iexists _; iexact HO
    isplitl [Hat]; · iexact Hat
    rw [todo_zero]; iexact Hp
  iexact HR

/-! ## Phase three: the copies -/

def sendTok (c : Dev nD) (k : Fin 15) : sProp 𝕄 := dutyTok ER (sendCell c k) 0 0
def recvTok (c : Dev nD) (k : Fin 15) : sProp 𝕄 := dutyTok ER (recvCell (up k c) k) 0 0
def sendCred (c : Dev nD) (k : Fin 15) : sProp 𝕄 := cred (tallyAt (sendCell c k) () N)

def SendSt (c : Dev nD) (j : ℕ) : sProp 𝕄 :=
  iprop(owesE c (oRecv c j) ∗ todo (sendPay P c) j ∗ todo (barPay c) j ∗ todo (sendTok c) j ∗ todo (recvTok c) j ∗ done (sendCred c) j)

/-- Copy number `j`. -/
theorem send_step (K : Names) (c : Dev nD) (k : Fin 15) (j : ℕ) (hj : j = k.val) {n : Dev nD} (hn : n = up k c)
    {src dst : Memref sig .tc .vmem S16x256 .bf16} (hs : src = rowM (up k c)) (hd : dst = slotM k)
    {sS sR : DmaSem sig} (hS : sS = sendS k) (hR : sR = recvS k)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {cont : PUnit → Prog (TpuEff nD τ sig (Elt F) Λ₀ .tc) α} {R : sProp 𝕄}
    (h : iprop(records P K ∗ SendSt P c (j + 1) ∗ R) ⊢ wp frame (wpE (defs₀ (F := F)) 𝒱₀ (c : Thread nD τ) none) Set.univ (cont ⟨⟩) Q) :
    iprop(records P K ∗ SendSt P c j ∗ R)
      ⊢ wp frame (wpE (defs₀ (F := F)) 𝒱₀ (c : Thread nD τ) none) Set.univ
          (.op (.enqueueDma src (.remote (Dev.tc n : Thread nD τ) dst (.dma sS) hsc) (.dma sR) hsrc hdst hsem) cont) Q := by
  subst hn hs hd hS hR hj
  unfold SendSt at h ⊢
  rw [todo_peel (sendPay P c) k, todo_peel (barPay c) k, todo_peel (sendTok c) k,
    todo_peel (recvTok c) k]
  rw [done_push] at h
  unfold owesE at h ⊢
  iintro ⟨#Hrec, ⟨⟨%W, HO⟩, ⟨Hrow, Hrows⟩, ⟨Hslot, Hslots⟩, ⟨HtS, HtSs⟩, ⟨HtR, HtRs⟩, Hcs⟩, HR⟩
  unfold barPay sendPay
  icases Hslot with ⟨%fn, Hslot⟩
  iapply (Rounds.wp_send_pointsTo 𝒱₀ ER (sched P) (c : Thread nD τ) none (κ₁ := K (c, some (false, k))) (κ₂ := K (up k c, some (true, k)))
      (c' := (up k c : Thread nD τ))
      (src := rowM (up k c)) (dst := slotM k) (q := fullShare) (fs := P c)
      (r₁ := 0) (r₂ := 0) (d₁ := 0) (d₂ := 0) (fd := fn)
      (by rw [duties_send]; exact Finset.mem_singleton_self _) (by rw [duties_recv]; exact Finset.mem_singleton_self _)
      () () N rfl rfl rfl (oRecv c (k.val + 1)) (oRecv_peel c k) (W := W)
      (by rw [payload_send]; exact BI.Entails.refl _)
      (by
        rw [payload_recv]; unfold recvPay slotPts
        refine Entails.of_eq (pointsTo_congr fun i hi => ?_)
        rw [← landed_eq P (up k c) k fn i hi, dn_up]))
    $$ [Hrow Hslot HO HtS HtR]
  · isplitr; · iapply (inv_at P K (c, some (false, k))); iexact Hrec
    isplitr; · iapply (inv_at P K (up k c, some (true, k))); iexact Hrec
    isplitl [Hrow]; · unfold rowPts; iexact Hrow
    isplitl [Hslot]; · unfold slotPts; iexact Hslot
    isplitl [HO]; · iexact HO
    isplitl [HtS]; · unfold sendTok; iexact HtS
    isplitr; · iapply (reached_at P K (c, some (false, k))); iexact Hrec
    isplitl [HtR]; · unfold recvTok; iexact HtR
    iapply (reached_at P K (up k c, some (true, k))); iexact Hrec
  iintro ⟨Hc, HO⟩
  iapply h
  isplitr; · iexact Hrec
  isplitr [HR]
  · isplitl [HO]; · iexists W; iexact HO
    isplitl [Hrows]; · iexact Hrows
    isplitl [Hslots]; · iexact Hslots
    isplitl [HtSs]; · iexact HtSs
    isplitl [HtRs]; · iexact HtRs
    isplitl [Hc]; · unfold sendCred; iexact Hc
    iexact Hcs
  iexact HR

/-! ## Phase four: the landings -/

def recvCred (c : Dev nD) (k : Fin 15) : sProp 𝕄 := cred (tallyAt (recvCell c k) () N)
def recvAt (c : Dev nD) (r : ℕ) (k : Fin 15) : sProp 𝕄 := atPos ER (recvCell c k) r ∅ 0
def sendAt (c : Dev nD) (r : ℕ) (k : Fin 15) : sProp 𝕄 := atPos ER (sendCell c k) r ∅ 0

def RecvSt (c : Dev nD) (j : ℕ) : sProp 𝕄 :=
  iprop(owesE c 0 ∗ todo (recvCred c) j ∗ todo (recvAt c 0) j ∗ done (recvAt c 1) j ∗ done (recvPay P c) j)

/-- Wait for copy number `j` to land, then read its slot. -/
theorem recv_step (K : Names) (c : Dev nD) (k : Fin 15) (j : ℕ) (hj : j = k.val)
    {src dst : Memref sig .tc .vmem S16x256 .bf16} {sR : DmaSem sig} (hR : sR = recvS k) (hN : dst.view.dmaCredit = N)
    {hsrc : src.view.WordExact} {hdst : dst.view.WordExact}
    {off : Fin 3 → ℕ} (hoff : off = slotOff k) {inb : ∀ a, off a + S1x16x256.size a ≤ S15x16x256.size a}
    {hl : rM.view.LoadsAt (Rect.unit (s := S15x16x256) off S1x16x256.size inb).toLoadRect}
    {α : Type} {Q : α → sProp 𝕄} {cont : Vec F S1x16x256 .bf16 → Prog (TpuEff nD τ sig (Elt F) Λ₀ .tc) α} {R : sProp 𝕄}
    (h : iprop(records P K ∗ RecvSt P c (j + 1) ∗ R) ⊢ wp frame (wpE (defs₀ (F := F)) 𝒱₀ (c : Thread nD τ) none) Set.univ
      (cont (rM.view.readAt (Elt F) (slotRect k).toLoadRect (landed P c))) Q) :
    iprop(records P K ∗ RecvSt P c j ∗ R)
      ⊢ wp frame (wpE (defs₀ (F := F)) 𝒱₀ (c : Thread nD τ) none) Set.univ
          (.op (.waitDma2 sR src dst hsrc hdst) fun _ =>
            .op (.load rM (Rect.unit (s := S15x16x256) off S1x16x256.size inb).toLoadRect hl) cont) Q := by
  subst hR hoff hj
  unfold RecvSt at h ⊢
  rw [todo_peel (recvCred c) k, todo_peel (recvAt c 0) k]
  rw [done_push, done_push] at h
  unfold owesE at h ⊢
  iintro ⟨#Hrec, ⟨⟨%W, HO⟩, ⟨Hc, Hcs⟩, ⟨Hat, Hats⟩, Hats', Hslots⟩, HR⟩
  iapply (Rounds.wp_wait_rest_token 𝒱₀ ER (sched P) (c : Thread nD τ) none (κ := K (c, some (true, k)))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (inv_at P K (c, some (true, k))); iexact Hrec
    isplitl [Hc]; · unfold recvCred; rw [hN]; iexact Hc
    isplitl [HO]; · iexact HO
    isplitr; · rw [MayWait_zero]; iempintro
    unfold recvAt; iexact Hat
  iintro ⟨HO, Hat, -, Hpay⟩
  ihave Hslot := (Entails.of_eq ((rest_recv P c k).trans (by unfold recvPay slotPts; rfl :
    _ = (rM.view.loc (c : Thread nD τ) ↦[slotSet k]{fullShare} landed P c : sProp 𝕄)))) $$ Hpay
  iapply (wp_load 𝒱₀ (c : Thread nD τ) none Set.univ (m := rM)
    (by rw [slot_set k]; exact fun i hi => by obtain ⟨x, hx, rfl⟩ := Finset.mem_map.mp hi; exact hx)) $$ Hslot
  iintro Hslot
  iapply h
  isplitr; · iexact Hrec
  isplitr [HR]
  · isplitl [HO]; · iexists _; iexact HO
    isplitl [Hcs]; · iexact Hcs
    isplitl [Hats]; · iexact Hats
    isplitl [Hat Hats']
    · isplitl [Hat]; · unfold recvAt; iexact Hat
      iexact Hats'
    isplitl [Hslot]; · unfold recvPay slotPts; iexact Hslot
    iexact Hslots
  iexact HR

/-! ## Phase five: its own copies have been read -/

def BackSt (c : Dev nD) (j : ℕ) : sProp 𝕄 :=
  iprop(owesE c 0 ∗ todo (sendCred c) j ∗ todo (sendAt c 0) j ∗ done (sendAt c 1) j ∗ done (sendPay P c) j)

/-- Wait until copy number `j` has been read. -/
theorem back_step (K : Names) (c : Dev nD) (k : Fin 15) (j : ℕ) (hj : j = k.val)
    {src dst : Memref sig .tc .vmem S16x256 .bf16} {sS : DmaSem sig} (hS : sS = sendS k) (hN : dst.view.dmaCredit = N)
    {hsrc : src.view.WordExact} {hdst : dst.view.WordExact}
    {α : Type} {Q : α → sProp 𝕄} {cont : PUnit → Prog (TpuEff nD τ sig (Elt F) Λ₀ .tc) α} {R : sProp 𝕄}
    (h : iprop(records P K ∗ BackSt P c (j + 1) ∗ R) ⊢ wp frame (wpE (defs₀ (F := F)) 𝒱₀ (c : Thread nD τ) none) Set.univ (cont ⟨⟩) Q) :
    iprop(records P K ∗ BackSt P c j ∗ R)
      ⊢ wp frame (wpE (defs₀ (F := F)) 𝒱₀ (c : Thread nD τ) none) Set.univ (.op (.waitDma2 sS src dst hsrc hdst) cont) Q := by
  subst hS hj
  unfold BackSt at h ⊢
  rw [todo_peel (sendCred c) k, todo_peel (sendAt c 0) k]
  rw [done_push, done_push] at h
  unfold owesE at h ⊢
  iintro ⟨#Hrec, ⟨⟨%W, HO⟩, ⟨Hc, Hcs⟩, ⟨Hat, Hats⟩, Hats', Hrows⟩, HR⟩
  iapply (Rounds.wp_wait_rest_token 𝒱₀ ER (sched P) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_at P K (c, some (false, k))); iexact Hrec
    isplitl [Hc]; · unfold sendCred; rw [hN]; iexact Hc
    isplitl [HO]; · iexact HO
    isplitr; · rw [MayWait_zero]; iempintro
    unfold sendAt; iexact Hat
  iintro ⟨HO, Hat, -, Hpay⟩
  ihave Hrow := (Entails.of_eq (rest_send P c k)) $$ Hpay
  iapply h
  isplitr; · iexact Hrec
  isplitr [HR]
  · isplitl [HO]; · iexists _; iexact HO
    isplitl [Hcs]; · iexact Hcs
    isplitl [Hats]; · iexact Hats
    isplitl [Hat Hats']
    · isplitl [Hat]; · unfold sendAt; iexact Hat
      iexact Hats'
    isplitl [Hrow] <;> iassumption
  iexact HR

/-! ## The end: the cells close -/

/-- A cell past its round closes: its counter is zero. -/
theorem cell_close_at (K : Names) (ck : Dev nD × Option (Bool × Fin 15)) :
    iprop(records P K ∗ atPos ER (kcell ck) 1 ∅ 0) ⊢ (|={Set.univ}=> semVal (kcell ck) 0 : sProp 𝕄) := by
  iintro ⟨#Hrec, Hat⟩
  iapply (Rounds.cell_close ER (sched P) (Set.mem_univ (K ck)) (fun h => h) (R := 0 + 1) (duties_later P (kcell ck)))
  isplitr; · iapply (inv_at P K ck); iexact Hrec
  iexact Hat

/-- A family of fifteen cells, each past its round, closes. -/
theorem cells_close (K : Names) (c : Dev nD) (f : Fin 15 → Option (Bool × Fin 15)) :
    iprop(records P K ∗ bigSep Finset.univ fun k : Fin 15 => atPos ER (kcell (c, f k)) 1 ∅ 0)
      ⊢ (|={Set.univ}=> bigSep Finset.univ fun k : Fin 15 => semVal (kcell (c, f k)) 0 : sProp 𝕄) := by
  refine (sep_mono_left (BI.bigSep_of_persistent (Finset.univ : Finset (Fin 15)) (records P K))).trans ?_
  rw [← bigSep_sep']
  exact (bigSep_mono fun k _ => cell_close_at P K (c, f k)).trans (bigSep_fupd _ _)

end Cert.KernelIdeal.Moe

end
-- ==== Proof.Ideal.Data.lean ====
/-
What every buffer of a device holds, and what a device has before and after the kernel's body.

A device's partial result is the sum over its own two experts, for all 256 tokens; its result is its own sixteen rows of
it plus the fifteen blocks of rows the other devices sent.
-/
module

public import proofs.«01_k».proof.Proof.Ideal.Steps

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-- The state the kernel starts from. -/
def s₀ : MemSt nD τ sig (Elt F) := ⟨m, fun _ => 0, ρ⟩

/-! ## Contents -/

/-- A device's inputs as staged: the tokens, the router's weights, the routes, its own two experts' weights. -/
def xAt (c : Dev nD) : (cc0_stg0_0 : Ref sig .tc).ty.Contents (Elt F) :=
  (win0_0.blk (0 : Fin 1)).view.read (Elt F) ((s₀ m ρ).mem ((c : Thread nD τ).loc main_arg0))
def rwAt (c : Dev nD) : (cc0_stg1_0 : Ref sig .tc).ty.Contents (Elt F) :=
  (win0_1.blk (0 : Fin 1)).view.read (Elt F) ((s₀ m ρ).mem ((c : Thread nD τ).loc main_arg1))
def riAt (c : Dev nD) : (cc0_stg2_0 : Ref sig .tc).ty.Contents (Elt F) :=
  (win0_2.blk (0 : Fin 1)).view.read (Elt F) ((s₀ m ρ).mem ((c : Thread nD τ).loc main_arg2))
def ewAt (c : Dev nD) : (cc0_stg3_0 : Ref sig .tc).ty.Contents (Elt F) :=
  (win0_3.blk (0 : Fin 1)).view.read (Elt F) ((s₀ m ρ).mem ((c : Thread nD τ).loc main_arg3))

/-- A device's number on the mesh axis, as the kernel computes it. -/
def axis (c : Dev nD) : BitVec 32 := Scalar.remsi (Scalar.divsi (Dev.word c) 1#32) 16#32

/-- The partial result a device stores, from its inputs. -/
def partialOf (v2 : BitVec 32) (x : Vec F S256x128 .bf16) (rw' : Vec F S128x32 .bf16) (ri : Vec F S256x2 .i32)
    (ew : Vec F S2x128x256 .bf16) : FVec F S256x256 .bf16 :=
  k0_pay12 v2 (k0_pay1 x) (k0_pay4 ri) (k0_pay5 ri) (k0_pay6 x rw' ri) (k0_pay7 x rw' ri) (k0_pay8 x rw' ri)
    (k0_pay9 v2 x rw' ri) (k0_pay10 v2 ri) (k0_pay11 (F := F)) ew

/-- Device `c`'s partial result. -/
def P (c : Dev nD) : (cc0_scratch0 : Ref sig .tc).ty.Contents (Elt F) :=
  partialOf (axis c) (xAt m ρ c) (rwAt m ρ c) (riAt m ρ c) (ewAt m ρ c)

/-- A device's own rows of its partial result, and what it reads from slot `k`. -/
def ownRows (c : Dev nD) : Vec F S16x256 .bf16 := pM.view.readAt (Elt F) (rowRect c).toLoadRect (P m ρ c)
def slotRows (c : Dev nD) (k : Fin 15) : Vec F S1x16x256 .bf16 :=
  rM.view.readAt (Elt F) (slotRect k).toLoadRect (landed (P m ρ) c)

/-- The result as the kernel adds it up: its own rows, then the slots in order. -/
def sumOf (o : Vec F S16x256 .bf16) (s : Fin 15 → Vec F S1x16x256 .bf16) : FVec F S16x256 .f32 :=
  k0_pay20 (k0_pay19 (k0_pay18 (k0_pay17 (k0_pay15 (k0_pay14 (k0_pay13 o (s 0)) (s 1) (s 2) (s 3)) (s 4) (s 5))
    (k0_pay16 (s 6)) (s 7) (s 8)) (s 9) (s 10) (s 11)) (s 12) (s 13)) (s 14)

/-- Device `c`'s result. -/
def outAt (c : Dev nD) : (cc0_stg4_0 : Ref sig .tc).ty.Contents (Elt F) := sumOf (ownRows m ρ c) (slotRows m ρ c)

/-! ## The buffers, block by block -/

variable (Q : Dev nD → (cc0_scratch0 : Ref sig .tc).ty.Contents (Elt F))

omit [FloatOps F] in
/-- Every row block but a device's own is the block of exactly one of its copies. -/
theorem other_rows (c : Dev nD) (Φ : Dev nD → sProp 𝕄) :
    bigSep (Finset.univ.erase c) Φ = bigSep Finset.univ fun k : Fin 15 => Φ (up k c) := by
  have h : (Finset.univ.erase c : Finset (Dev nD)) = Finset.univ.map ⟨fun k : Fin 15 => up k c, fun _ _ h => up_inj c h⟩ := by
    ext d
    rw [Finset.mem_erase, Finset.mem_map]
    constructor
    · rintro ⟨hd, -⟩
      obtain ⟨k, hk⟩ := exists_up c d hd
      exact ⟨k, Finset.mem_univ _, hk⟩
    · rintro ⟨k, -, rfl⟩
      exact ⟨up_ne k c, Finset.mem_univ _⟩
  rw [h, bigSep_map]; rfl

omit [FloatOps F] in
/-- The partial result is a device's own rows and the rows of its fifteen copies. -/
theorem partial_blocks (c : Dev nD) :
    (((c : Thread nD τ).loc cc0_scratch0) ↦{fullShare} Q c : sProp 𝕄)
      = iprop(rowPts c c (Q c) ∗ bigSep Finset.univ (sendPay Q c)) := by
  rw [Ring.pointsTo_blocks (ℓ := (c : Thread nD τ).loc cc0_scratch0) rowSet (fun d d' h => row_disjoint d d' h) row_cover (Q c),
    bigSep_univ_split c, other_rows]
  rfl

omit [FloatOps F] in
/-- The receive buffer is its fifteen slots. -/
theorem recv_blocks (c : Dev nD) (f : (cc0_scratch1 : Ref sig .tc).ty.Contents (Elt F)) :
    (((c : Thread nD τ).loc cc0_scratch1) ↦{fullShare} f : sProp 𝕄) = bigSep Finset.univ fun k : Fin 15 => slotPts c k f := by
  rw [Ring.pointsTo_blocks (ℓ := (c : Thread nD τ).loc cc0_scratch1) slotSet (fun d d' h => slot_disjoint d d' h) slot_cover f]
  rfl

omit [FloatOps F] in
/-- A receive buffer is fifteen slots to give away. -/
theorem recv_give (c : Dev nD) (f : (cc0_scratch1 : Ref sig .tc).ty.Contents (Elt F)) :
    (((c : Thread nD τ).loc cc0_scratch1) ↦{fullShare} f : sProp 𝕄) ⊢ todo (give c) 0 := by
  rw [recv_blocks, bigSep_univ_equiv flip, todo_zero]
  refine bigSep_mono fun k _ => ?_
  show slotPts c (rev k) f ⊢ give c k
  unfold give
  iintro H; iexists f; iexact H

/-! ## Before and after the body -/

/-- What device `c` has of the schedule when its body starts. -/
def ghost (K : Names) (c : Dev nD) : sProp 𝕄 :=
  iprop(records Q K ∗ atPos ER (barCell c) 0 ∅ 0 ∗ bigSep Finset.univ (sendAt c 0) ∗ bigSep Finset.univ (recvAt c 0)
    ∗ bigSep Finset.univ (barTok c) ∗ bigSep Finset.univ (sendTok c) ∗ bigSep Finset.univ (recvTok c))

/-- The credit it waits with, and the levels. -/
def credit (c : Dev nD) : sProp 𝕄 :=
  iprop(cred (tallyAt (barCell c) () 15) ∗ bigSep Finset.univ (recvCred c) ∗ levAts L lv)

def start (c : Dev nD) : sProp 𝕄 := iprop((∃ K, ghost Q K c) ∗ credit c)

def Φ₀ (c : Dev nD) : sProp 𝕄 :=
  iprop(start Q c ∗ (∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- After the body: both scratch buffers, and every counter at zero. -/
def Φ₁ (c : Dev nD) : sProp 𝕄 :=
  iprop((((c : Thread nD τ).loc cc0_scratch0) ↦{fullShare} Q c) ∗ (((c : Thread nD τ).loc cc0_scratch1) ↦{fullShare} landed Q c)
    ∗ (bigSep Finset.univ fun k : Fin 15 => semVal (sendCell c k) 0) ∗ (bigSep Finset.univ fun k : Fin 15 => semVal (recvCell c k) 0)
    ∗ semVal (barCell c) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => rwAt m ρ c
    | ⟨2, _⟩ => riAt m ρ c
    | ⟨3, _⟩ => ewAt m ρ c
    | ⟨4, _⟩ => outAt m ρ c
  Φ t := match t with
    | ⟨0, _⟩ => Φ₀ (P m ρ) c
    | ⟨_ + 1, _⟩ => Φ₁ (P m ρ) c
  q _ := fullShare
  owed t := match t with
    | ⟨0, _⟩ => O₀ c
    | ⟨_ + 1, _⟩ => 0

end Cert.KernelIdeal.Moe

end
-- ==== Proof.Ideal.Body.lean ====
/-
The kernel's body, executed once at a device `c`.

The steps are taken in program order: the fifteen signals, the partial result, the wait on its own barrier, the fifteen
copies, the fifteen landings, the result, and the fifteen waits for its own copies to have been read.
-/
module

public import proofs.«01_k».proof.Proof.Ideal.Data

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The operands of the program's effects -/

/-- The devices the fifteen signals are sent to. -/
theorem signal_devs (c : Dev nD) :
    (⟨k0_dev1 c, k0_dev1_lt c⟩ : Dev nD) = up 0 c ∧
    (⟨k0_dev2 c, k0_dev2_lt c⟩ : Dev nD) = up 1 c ∧
    (⟨k0_dev3 c, k0_dev3_lt c⟩ : Dev nD) = up 2 c ∧
    (⟨k0_dev4 c, k0_dev4_lt c⟩ : Dev nD) = up 3 c ∧
    (⟨k0_dev5 c, k0_dev5_lt c⟩ : Dev nD) = up 4 c ∧
    (⟨k0_dev6 c, k0_dev6_lt c⟩ : Dev nD) = up 5 c ∧
    (⟨k0_dev7 c, k0_dev7_lt c⟩ : Dev nD) = up 6 c ∧
    (⟨k0_dev8 c, k0_dev8_lt c⟩ : Dev nD) = up 7 c ∧
    (⟨k0_dev9 c, k0_dev9_lt c⟩ : Dev nD) = up 8 c ∧
    (⟨k0_dev10 c, k0_dev10_lt c⟩ : Dev nD) = up 9 c ∧
    (⟨k0_dev11 c, k0_dev11_lt c⟩ : Dev nD) = up 10 c ∧
    (⟨k0_dev12 c, k0_dev12_lt c⟩ : Dev nD) = up 11 c ∧
    (⟨k0_dev13 c, k0_dev13_lt c⟩ : Dev nD) = up 12 c ∧
    (⟨k0_dev14 c, k0_dev14_lt c⟩ : Dev nD) = up 13 c ∧
    (⟨k0_dev15 c, k0_dev15_lt c⟩ : Dev nD) = up 14 c := by
  revert c; decide +kernel

/-- The devices the fifteen copies are sent to. -/
theorem copy_devs (c : Dev nD) :
    (⟨k0_dev16 c, k0_dev16_lt c⟩ : Dev nD) = up 0 c ∧
    (⟨k0_dev17 c, k0_dev17_lt c⟩ : Dev nD) = up 1 c ∧
    (⟨k0_dev18 c, k0_dev18_lt c⟩ : Dev nD) = up 2 c ∧
    (⟨k0_dev19 c, k0_dev19_lt c⟩ : Dev nD) = up 3 c ∧
    (⟨k0_dev20 c, k0_dev20_lt c⟩ : Dev nD) = up 4 c ∧
    (⟨k0_dev21 c, k0_dev21_lt c⟩ : Dev nD) = up 5 c ∧
    (⟨k0_dev22 c, k0_dev22_lt c⟩ : Dev nD) = up 6 c ∧
    (⟨k0_dev23 c, k0_dev23_lt c⟩ : Dev nD) = up 7 c ∧
    (⟨k0_dev24 c, k0_dev24_lt c⟩ : Dev nD) = up 8 c ∧
    (⟨k0_dev25 c, k0_dev25_lt c⟩ : Dev nD) = up 9 c ∧
    (⟨k0_dev26 c, k0_dev26_lt c⟩ : Dev nD) = up 10 c ∧
    (⟨k0_dev27 c, k0_dev27_lt c⟩ : Dev nD) = up 11 c ∧
    (⟨k0_dev28 c, k0_dev28_lt c⟩ : Dev nD) = up 12 c ∧
    (⟨k0_dev29 c, k0_dev29_lt c⟩ : Dev nD) = up 13 c ∧
    (⟨k0_dev30 c, k0_dev30_lt c⟩ : Dev nD) = up 14 c := by
  revert c; decide +kernel

/-- The rows copy `k` reads: those of the device it is sent to. -/
theorem copy_rows (c : Dev nD) (k : Fin 15) (w : BitVec 32) (hw : w = BitVec.ofNat 32 (1 + k.val)) (inb) :
    pM.slice (Rect.unit (s := S256x256) (k0_off1 c w) S16x256.size inb) (fun _ => rfl) = rowM (up k c) := by
  subst hw
  exact Memref.slice_unit_congr _ (off1_eq c k) _ _ _ _

/-! ## What is beside the current phase's state -/

abbrev Pts (c : Dev nD) (b : Ref sig .tc) (f : Buf (Elt F) ((c : Thread nD τ).loc b)) : sProp 𝕄 := ((c : Thread nD τ).loc b) ↦{fullShare} f

/-- The staged inputs. -/
abbrev Ins (c : Dev nD) : sProp 𝕄 :=
  iprop(Pts c cc0_stg0_0 (xAt m ρ c) ∗ Pts c cc0_stg1_0 (rwAt m ρ c) ∗ Pts c cc0_stg2_0 (riAt m ρ c) ∗ Pts c cc0_stg3_0 (ewAt m ρ c))
/-- What follows the body. -/
abbrev End (c : Dev nD) (Q : PUnit → sProp 𝕄) : sProp 𝕄 :=
  iprop((Φ₁ (P m ρ) c ∗ owesE c 0 ∗ Ins m ρ c ∗ Pts c cc0_stg4_0 (outAt m ρ c)) -∗ Q ⟨⟩)

/-! ## The whole buffers, loaded and stored -/

omit [FloatOps F] in
theorem zero2 : (![0, 0] : Fin 2 → Nat) = fun _ => 0 := funext fun a => by fin_cases a <;> rfl
omit [FloatOps F] in
theorem zero3 : (![0, 0, 0] : Fin 3 → Nat) = fun _ => 0 := funext fun a => by fin_cases a <;> rfl

/-- Loading from a buffer held whole, what the load reads being `v`. -/
theorem load_full (c : Dev nD) {s : Shape} {e : EltTy} (M : Memref sig .tc .vmem s e) {r : LoadRect s}
    {f : Buf (Elt F) (M.view.loc (c : Thread nD τ))} {v : r.shape.Idx → Elt F e} (hv : M.view.readAt (Elt F) r f = v) {hl : M.view.LoadsAt r}
    {α : Type} {Q : α → sProp 𝕄} {cont : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (cont v) Q)
        -∗ wp frame (wpE (defs₀ (F := F)) 𝒱₀ (c : Thread nD τ) none) Set.univ (.op (.load M r hl) cont) Q) := by
  subst hv
  exact wp_load 𝒱₀ (c : Thread nD τ) none Set.univ (m := M) (Finset.subset_univ _)

/-- Storing into a buffer held whole, what it then holds being `g`. -/
theorem store_full (c : Dev nD) {s : Shape} {e : EltTy} (M : Memref sig .tc .vmem s e) {r : Rect s} {w : r.shape.Idx → Elt F e}
    {f g : Buf (Elt F) ((M.access r).loc (c : Thread nD τ))} (hg : (M.access r).write (Elt F) f w Finset.univ = g)
    {hx : (M.access r).Stores Finset.univ} {hm : (Finset.univ : Finset r.shape.Idx) = Finset.univ ∨ ∀ a, r.stride a = 1}
    {α : Type} {Q : α → sProp 𝕄} {cont : PUnit → Prog (TpuEff nD τ sig (Elt F) Λ₀ .tc) α} :
    ((M.access r).loc (c : Thread nD τ) ↦{fullShare} f : sProp 𝕄)
      ⊢ iprop((((M.access r).loc (c : Thread nD τ) ↦{fullShare} g) -∗ wp frame (wpE (defs₀ (F := F)) 𝒱₀ (c : Thread nD τ) none) Set.univ (cont ⟨⟩) Q)
        -∗ wp frame (wpE (defs₀ (F := F)) 𝒱₀ (c : Thread nD τ) none) Set.univ (.op (.store M r w Finset.univ hx hm) cont) Q) := by
  rw [← hg]
  exact wp_store (defs := defs₀ (F := F)) 𝒱₀ (c : Thread nD τ) none Set.univ (m := M) (r := r) (w := w) (hx := hx) (hm := hm) (k := cont) (Finset.subset_univ _)

/-- Loading its own rows of the partial result, which are all it has of it. -/
theorem load_own (c : Dev nD) {off : Fin 2 → ℕ} (hoff : off = rowOff c) {inb : ∀ a, off a + S16x256.size a ≤ S256x256.size a}
    {f : (cc0_scratch0 : Ref sig .tc).ty.Contents (Elt F)} {hl : pM.view.LoadsAt (Rect.unit (s := S256x256) off S16x256.size inb).toLoadRect}
    {α : Type} {Q : α → sProp 𝕄} {cont : Vec F S16x256 .bf16 → Prog (TpuEff nD τ sig (Elt F) Λ₀ .tc) α} :
    (rowPts c c f : sProp 𝕄)
      ⊢ iprop((rowPts c c f -∗ wp frame (wpE (defs₀ (F := F)) 𝒱₀ (c : Thread nD τ) none) Set.univ
          (cont (pM.view.readAt (Elt F) (rowRect c).toLoadRect f)) Q)
        -∗ wp frame (wpE (defs₀ (F := F)) 𝒱₀ (c : Thread nD τ) none) Set.univ
            (.op (.load pM (Rect.unit (s := S256x256) off S16x256.size inb).toLoadRect hl) cont) Q) := by
  subst hoff
  have e : (rowPts c c f : sProp 𝕄) = (pM.view.loc (c : Thread nD τ) ↦[rowSet c]{fullShare} f) := by unfold rowPts; rfl
  rw [e]
  exact wp_load 𝒱₀ (c : Thread nD τ) none Set.univ (m := pM)
    (by rw [row_set c]; exact fun i hi => by obtain ⟨x, hx, rfl⟩ := Finset.mem_map.mp hi; exact hx)

omit [FloatOps F] in
/-- Entailment is transitive. -/
theorem via {A B C : sProp 𝕄} (h : A ⊢ B) (h' : B ⊢ C) : A ⊢ C := h.trans h'

omit [FloatOps F] in
/-- After fifteen signals only the copies' landings are owed; after fifteen copies nothing is. -/
theorem owes_signalled (c : Dev nD) : (owesE c (oBar c (14 + 1) + oRecv c 0) : sProp 𝕄) ⊢ owesE c (oRecv c 0) := by
  rw [show oBar c (14 + 1) = 0 from oBar_all c, zero_add]
omit [FloatOps F] in
theorem owes_sent (c : Dev nD) : (owesE c (oRecv c (14 + 1)) : sProp 𝕄) ⊢ owesE c 0 := by
  rw [show oRecv c (14 + 1) = 0 from oRecv_all c]

set_option maxHeartbeats 4000000 in
/-- The body, from its inputs staged and its scratch buffers at anything, to its result. -/
theorem body_run (K : Names) (c : Dev nD) (Q : PUnit → sProp 𝕄) (f0 : Buf (Elt F) ((c : Thread nD τ).loc cc0_scratch0))
    (f1 : Buf (Elt F) ((c : Thread nD τ).loc cc0_scratch1)) (g4 : Buf (Elt F) ((c : Thread nD τ).loc cc0_stg4_0)) :
    iprop(ghost (P m ρ) K c ∗ credit c ∗ Pts c cc0_scratch0 f0 ∗ Pts c cc0_scratch1 f1 ∗ owesE c (O₀ c) ∗ Ins m ρ c ∗ Pts c cc0_stg4_0 g4
        ∗ End m ρ c Q)
      ⊢ wp frame (wpE (defs₀ (F := F)) 𝒱₀ (c : Thread nD τ) none) Set.univ
        (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _)
          (Memref.whole cc0_scratch0) (Memref.isWhole_whole _) (Memref.whole cc0_scratch1) (Memref.isWhole_whole _) cc0_scratch2 cc0_scratch3) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  obtain ⟨s0, s1, s2, s3, s4, s5, s6, s7, s8, s9, s10, s11, s12, s13, s14⟩ := signal_devs c
  obtain ⟨t0, t1, t2, t3, t4, t5, t6, t7, t8, t9, t10, t11, t12, t13, t14⟩ := copy_devs c
  unfold ghost credit
  -- the fifteen signals
  refine via (B := iprop(records (P m ρ) K ∗ SigSt c 0
    ∗ (atPos ER (barCell c) 0 ∅ 0 ∗ bigSep Finset.univ (sendAt c 0) ∗ bigSep Finset.univ (recvAt c 0)
      ∗ bigSep Finset.univ (sendTok c) ∗ bigSep Finset.univ (recvTok c) ∗ cred (tallyAt (barCell c) () 15) ∗ bigSep Finset.univ (recvCred c)
      ∗ levAts L lv ∗ Pts c cc0_scratch0 f0 ∗ Ins m ρ c ∗ Pts c cc0_stg4_0 g4 ∗ End m ρ c Q))) ?_ ?_
  · unfold SigSt O₀
    rw [todo_zero (barTok c)]
    iintro ⟨⟨#Hrec, Hbar, HsA, HrA, HbT, HsT, HrT⟩, ⟨HcB, HcR, #Hlev⟩, H0, H1, HO, Hin, H4, Hend⟩
    ihave Hg := (recv_give c f1) $$ H1
    isplitr; · iexact Hrec
    isplitl [HO HbT Hg]
    · isplitl [HO]; · iexact HO
      isplitl [HbT]; · iexact HbT
      iexact Hg
    isplitl [Hbar]; · iexact Hbar
    isplitl [HsA]; · iexact HsA
    isplitl [HrA]; · iexact HrA
    isplitl [HsT]; · iexact HsT
    isplitl [HrT]; · iexact HrT
    isplitl [HcB]; · iexact HcB
    isplitl [HcR]; · iexact HcR
    isplitr; · iexact Hlev
    isplitl [H0]; · iexact H0
    isplitl [Hin]; · iexact Hin
    isplitl [H4] <;> iassumption
  refine signal_step (P m ρ) K c 0 0 rfl s0 rfl ?_
  refine signal_step (P m ρ) K c 1 1 rfl s1 rfl ?_
  refine signal_step (P m ρ) K c 2 2 rfl s2 rfl ?_
  refine signal_step (P m ρ) K c 3 3 rfl s3 rfl ?_
  refine signal_step (P m ρ) K c 4 4 rfl s4 rfl ?_
  refine signal_step (P m ρ) K c 5 5 rfl s5 rfl ?_
  refine signal_step (P m ρ) K c 6 6 rfl s6 rfl ?_
  refine signal_step (P m ρ) K c 7 7 rfl s7 rfl ?_
  refine signal_step (P m ρ) K c 8 8 rfl s8 rfl ?_
  refine signal_step (P m ρ) K c 9 9 rfl s9 rfl ?_
  refine signal_step (P m ρ) K c 10 10 rfl s10 rfl ?_
  refine signal_step (P m ρ) K c 11 11 rfl s11 rfl ?_
  refine signal_step (P m ρ) K c 12 12 rfl s12 rfl ?_
  refine signal_step (P m ρ) K c 13 13 rfl s13 rfl ?_
  refine signal_step (P m ρ) K c 14 14 rfl s14 rfl ?_
  unfold SigSt
  iintro ⟨#Hrec, ⟨HO, -, -⟩, Hbar, HsA, HrA, HsT, HrT, HcB, HcR, #Hlev, H0, ⟨Hx, Hrw, Hri, Hew⟩, H4, Hend⟩
  -- the partial result
  iapply (load_full c (Memref.whole cc0_stg0_0) (Memref.readAt_unit_zero (Elt F) cc0_stg0_0 zero2 _ _)) $$ Hx; iintro Hx
  iapply (load_full c (Memref.whole cc0_stg1_0) (Memref.readAt_unit_zero (Elt F) cc0_stg1_0 zero2 _ _)) $$ Hrw; iintro Hrw
  iapply (load_full c (Memref.whole cc0_stg2_0) (Memref.readAt_unit_zero (Elt F) cc0_stg2_0 zero2 _ _)) $$ Hri; iintro Hri
  iapply (load_full c (Memref.whole cc0_stg3_0) (Memref.readAt_unit_zero (Elt F) cc0_stg3_0 zero3 _ _)) $$ Hew; iintro Hew
  iapply (load_full c (Memref.whole cc0_scratch0) (Memref.readAt_unit_zero (Elt F) cc0_scratch0 zero2 _ _)) $$ H0; iintro H0
  iapply (store_full c (Memref.whole cc0_scratch0) (r := Rect.unit (s := S256x256) ![0, 0] S256x256.size inb_S256x256_S256x256_0_0) (Memref.write_access_unit_zero_univ (Elt F) cc0_scratch0 zero2 _ _ _)) $$ H0; iintro H0
  -- the wait on its own barrier
  iapply (bar_step (P m ρ) K c rfl (R := iprop(bigSep Finset.univ (sendAt c 0) ∗ bigSep Finset.univ (recvAt c 0)
      ∗ bigSep Finset.univ (sendTok c) ∗ bigSep Finset.univ (recvTok c) ∗ bigSep Finset.univ (recvCred c)
      ∗ Pts c cc0_scratch0 (P m ρ c) ∗ Ins m ρ c ∗ Pts c cc0_stg4_0 g4 ∗ End m ρ c Q)) ?_)
  rotate_left
  · isplitr; · iexact Hrec
    isplitl [HO Hbar HcB]
    · isplitl [HO]; · iapply (owes_signalled c); iexact HO
      isplitl [Hbar]; · iexact Hbar
      isplitl [HcB]; · iexact HcB
      iexact Hlev
    isplitl [HsA]; · iexact HsA
    isplitl [HrA]; · iexact HrA
    isplitl [HsT]; · iexact HsT
    isplitl [HrT]; · iexact HrT
    isplitl [HcR]; · iexact HcR
    isplitl [H0]; · iexact H0
    isplitl [Hx Hrw Hri Hew]
    · isplitl [Hx]; · iexact Hx
      isplitl [Hrw]; · iexact Hrw
      isplitl [Hri] <;> iassumption
    isplitl [H4] <;> iassumption
  -- the fifteen copies
  refine via (B := iprop(records (P m ρ) K ∗ SendSt (P m ρ) c 0
    ∗ (atPos ER (barCell c) 1 ∅ 0 ∗ bigSep Finset.univ (sendAt c 0) ∗ bigSep Finset.univ (recvAt c 0)
      ∗ bigSep Finset.univ (recvCred c) ∗ rowPts c c (P m ρ c) ∗ Ins m ρ c ∗ Pts c cc0_stg4_0 g4 ∗ End m ρ c Q))) ?_ ?_
  · unfold SendSt
    rw [todo_zero (sendPay (P m ρ) c), todo_zero (sendTok c), todo_zero (recvTok c), done_zero]
    iintro ⟨#Hrec, ⟨HO, Hbar, Hslots⟩, HsA, HrA, HsT, HrT, HcR, H0, Hin, H4, Hend⟩
    ihave Hp := (Entails.of_eq (partial_blocks (P m ρ) c)) $$ H0
    icases Hp with ⟨Hown, Hrows⟩
    isplitr; · iexact Hrec
    isplitl [HO Hslots HsT HrT Hrows]
    · isplitl [HO]; · iexact HO
      isplitl [Hrows]; · iexact Hrows
      isplitl [Hslots]; · iexact Hslots
      isplitl [HsT]; · iexact HsT
      isplitl [HrT]; · iexact HrT
      iempintro
    isplitl [Hbar]; · iexact Hbar
    isplitl [HsA]; · iexact HsA
    isplitl [HrA]; · iexact HrA
    isplitl [HcR]; · iexact HcR
    isplitl [Hown]; · iexact Hown
    isplitl [Hin]; · iexact Hin
    isplitl [H4] <;> iassumption
  refine send_step (P m ρ) K c 0 0 rfl t0 (copy_rows c 0 _ rfl _) rfl rfl rfl ?_
  refine send_step (P m ρ) K c 1 1 rfl t1 (copy_rows c 1 _ rfl _) rfl rfl rfl ?_
  refine send_step (P m ρ) K c 2 2 rfl t2 (copy_rows c 2 _ rfl _) rfl rfl rfl ?_
  refine send_step (P m ρ) K c 3 3 rfl t3 (copy_rows c 3 _ rfl _) rfl rfl rfl ?_
  refine send_step (P m ρ) K c 4 4 rfl t4 (copy_rows c 4 _ rfl _) rfl rfl rfl ?_
  refine send_step (P m ρ) K c 5 5 rfl t5 (copy_rows c 5 _ rfl _) rfl rfl rfl ?_
  refine send_step (P m ρ) K c 6 6 rfl t6 (copy_rows c 6 _ rfl _) rfl rfl rfl ?_
  refine send_step (P m ρ) K c 7 7 rfl t7 (copy_rows c 7 _ rfl _) rfl rfl rfl ?_
  refine send_step (P m ρ) K c 8 8 rfl t8 (copy_rows c 8 _ rfl _) rfl rfl rfl ?_
  refine send_step (P m ρ) K c 9 9 rfl t9 (copy_rows c 9 _ rfl _) rfl rfl rfl ?_
  refine send_step (P m ρ) K c 10 10 rfl t10 (copy_rows c 10 _ rfl _) rfl rfl rfl ?_
  refine send_step (P m ρ) K c 11 11 rfl t11 (copy_rows c 11 _ rfl _) rfl rfl rfl ?_
  refine send_step (P m ρ) K c 12 12 rfl t12 (copy_rows c 12 _ rfl _) rfl rfl rfl ?_
  refine send_step (P m ρ) K c 13 13 rfl t13 (copy_rows c 13 _ rfl _) rfl rfl rfl ?_
  refine send_step (P m ρ) K c 14 14 rfl t14 (copy_rows c 14 _ rfl _) rfl rfl rfl ?_
  -- its own rows, then the landings, each read as it lands
  unfold SendSt
  iintro ⟨#Hrec, ⟨HO, -, -, -, -, HcS⟩, Hbar, HsA, HrA, HcR, Hown, Hin, H4, Hend⟩
  iapply (load_own c (off2_eq c)) $$ Hown; iintro Hown
  iapply (via (B := iprop(records (P m ρ) K ∗ RecvSt (P m ρ) c 0
    ∗ (atPos ER (barCell c) 1 ∅ 0 ∗ bigSep Finset.univ (sendAt c 0) ∗ done (sendCred c) (14 + 1) ∗ rowPts c c (P m ρ c) ∗ Ins m ρ c
      ∗ Pts c cc0_stg4_0 g4 ∗ End m ρ c Q))) (BI.Entails.refl _) ?_)
  rotate_left
  · unfold RecvSt
    rw [todo_zero (recvCred c), todo_zero (recvAt c 0), done_zero, done_zero]
    isplitr; · iexact Hrec
    isplitl [HO HrA HcR]
    · isplitl [HO]; · iapply (owes_sent c); iexact HO
      isplitl [HcR]; · iexact HcR
      isplitl [HrA]; · iexact HrA
      isplitl [] <;> iempintro
    isplitl [Hbar]; · iexact Hbar
    isplitl [HsA]; · iexact HsA
    isplitl [HcS]; · iexact HcS
    isplitl [Hown]; · iexact Hown
    isplitl [Hin]; · iexact Hin
    isplitl [H4] <;> iassumption
  refine recv_step (P m ρ) K c 0 0 rfl rfl (by rfl) rfl ?_
  refine recv_step (P m ρ) K c 1 1 rfl rfl (by rfl) rfl ?_
  refine recv_step (P m ρ) K c 2 2 rfl rfl (by rfl) rfl ?_
  refine recv_step (P m ρ) K c 3 3 rfl rfl (by rfl) rfl ?_
  refine recv_step (P m ρ) K c 4 4 rfl rfl (by rfl) rfl ?_
  refine recv_step (P m ρ) K c 5 5 rfl rfl (by rfl) rfl ?_
  refine recv_step (P m ρ) K c 6 6 rfl rfl (by rfl) rfl ?_
  refine recv_step (P m ρ) K c 7 7 rfl rfl (by rfl) rfl ?_
  refine recv_step (P m ρ) K c 8 8 rfl rfl (by rfl) rfl ?_
  refine recv_step (P m ρ) K c 9 9 rfl rfl (by rfl) rfl ?_
  refine recv_step (P m ρ) K c 10 10 rfl rfl (by rfl) rfl ?_
  refine recv_step (P m ρ) K c 11 11 rfl rfl (by rfl) rfl ?_
  refine recv_step (P m ρ) K c 12 12 rfl rfl (by rfl) rfl ?_
  refine recv_step (P m ρ) K c 13 13 rfl rfl (by rfl) rfl ?_
  refine recv_step (P m ρ) K c 14 14 rfl rfl (by rfl) rfl ?_
  -- the result
  unfold RecvSt
  iintro ⟨#Hrec, ⟨HO, -, -, HrA, Hslots⟩, Hbar, HsA, HcS, Hown, Hin, H4, Hend⟩
  iapply (load_full c (Memref.whole cc0_stg4_0) (Memref.readAt_unit_zero (Elt F) cc0_stg4_0 zero2 _ _)) $$ H4; iintro H4
  iapply (store_full c (Memref.whole cc0_stg4_0) (r := Rect.unit (s := S16x256) ![0, 0] S16x256.size inb_S16x256_S16x256_0_0)
    (Memref.write_access_unit_zero_univ (Elt F) cc0_stg4_0 zero2 _ _ _)) $$ H4; iintro H4
  -- its own copies have been read
  iapply (via (B := iprop(records (P m ρ) K ∗ BackSt (P m ρ) c 0
    ∗ (atPos ER (barCell c) 1 ∅ 0 ∗ done (recvAt c 1) (14 + 1) ∗ done (recvPay (P m ρ) c) (14 + 1) ∗ rowPts c c (P m ρ c) ∗ Ins m ρ c
      ∗ Pts c cc0_stg4_0 (outAt m ρ c) ∗ End m ρ c Q))) (BI.Entails.refl _) ?_)
  rotate_left
  · unfold BackSt
    rw [todo_zero (sendCred c), todo_zero (sendAt c 0), done_zero, done_zero]
    isplitr; · iexact Hrec
    isplitl [HO HcS HsA]
    · isplitl [HO]; · iexact HO
      isplitl [HcS]; · rw [← done_all (sendCred c)]; iexact HcS
      isplitl [HsA]; · iexact HsA
      isplitl [] <;> iempintro
    isplitl [Hbar]; · iexact Hbar
    isplitl [HrA]; · iexact HrA
    isplitl [Hslots]; · iexact Hslots
    isplitl [Hown]; · iexact Hown
    isplitl [Hin]; · iexact Hin
    isplitl [H4]; · iexact H4
    iexact Hend
  refine back_step (P m ρ) K c 0 0 rfl rfl (by rfl) ?_
  refine back_step (P m ρ) K c 1 1 rfl rfl (by rfl) ?_
  refine back_step (P m ρ) K c 2 2 rfl rfl (by rfl) ?_
  refine back_step (P m ρ) K c 3 3 rfl rfl (by rfl) ?_
  refine back_step (P m ρ) K c 4 4 rfl rfl (by rfl) ?_
  refine back_step (P m ρ) K c 5 5 rfl rfl (by rfl) ?_
  refine back_step (P m ρ) K c 6 6 rfl rfl (by rfl) ?_
  refine back_step (P m ρ) K c 7 7 rfl rfl (by rfl) ?_
  refine back_step (P m ρ) K c 8 8 rfl rfl (by rfl) ?_
  refine back_step (P m ρ) K c 9 9 rfl rfl (by rfl) ?_
  refine back_step (P m ρ) K c 10 10 rfl rfl (by rfl) ?_
  refine back_step (P m ρ) K c 11 11 rfl rfl (by rfl) ?_
  refine back_step (P m ρ) K c 12 12 rfl rfl (by rfl) ?_
  refine back_step (P m ρ) K c 13 13 rfl rfl (by rfl) ?_
  refine back_step (P m ρ) K c 14 14 rfl rfl (by rfl) ?_
  -- the cells close, and the buffers are whole again
  unfold BackSt
  rw [show 14 + 1 = 15 from rfl, done_all (recvAt c 1), done_all (recvPay (P m ρ) c), done_all (sendAt c 1), done_all (sendPay (P m ρ) c)]
  iintro ⟨#Hrec, ⟨HO, -, -, HsA, Hrows⟩, Hbar, HrA, Hslots, Hown, Hin, H4, Hend⟩
  imod (cells_close (P m ρ) K c (fun k => some (false, k))) $$ [HsA] with HzS
  · isplitr; · iexact Hrec
    iexact HsA
  imod (cells_close (P m ρ) K c (fun k => some (true, k))) $$ [HrA] with HzR
  · isplitr; · iexact Hrec
    iexact HrA
  imod (cell_close_at (P m ρ) K (c, none)) $$ [Hbar] with HzB
  · isplitr; · iexact Hrec
    iexact Hbar
  ihave H0 := (Entails.of_eq (partial_blocks (P m ρ) c).symm) $$ [Hown Hrows]
  · isplitl [Hown] <;> iassumption
  ihave H1 := (Entails.of_eq (recv_blocks c (landed (P m ρ) c)).symm) $$ [Hslots]
  · iexact Hslots
  rw [wp_ret]; imodintro
  iapply Hend
  unfold Φ₁
  isplitl [H0 H1 HzS HzR HzB]
  · isplitl [H0]; · iexact H0
    isplitl [H1]; · iexact H1
    isplitl [HzS]; · iexact HzS
    isplitl [HzR]; · iexact HzR
    iexact HzB
  isplitl [HO]; · iexact HO
  isplitl [Hin]; · iexact Hin
  iexact H4

end Cert.KernelIdeal.Moe

end
-- ==== Proof.Ideal.Launch.lean ====
/-
The launch: the sixteen devices' cells are set up, their tokens dealt to the devices that pay them, and the program run.

What the run leaves: on every device each window's array as computed, and every semaphore at zero.
-/
module

public import proofs.«01_k».proof.Proof.Ideal.Body
public import Idealize.ShloMosaic.Lib.Pipeline.Launch
public import Idealize.ShloMosaic.Lib.Pipeline.Kit
public import Idealize.ShloMosaic.Lib.Pipeline.CollectiveSegs
public import proofs.«01_k».proof.Proof.Gen.KernelIdeal.Points

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

omit [FloatOps F] in
/-- A staging buffer holding `X`, in the launch's words and in the body's. -/
theorem owns_pts (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ Pts c b f) := by
  unfold owns; simp only [Memref.view_whole, View.read_whole, View.set_whole]

/-- What is staged before the body in each input window. -/
theorem before_in (c : Dev nD) (d0 d1 d2 d3) :
    (dats m ρ 0 c).before (0 : Fin 5) t₀ d0 = xAt m ρ c ∧ (dats m ρ 0 c).before (1 : Fin 5) t₀ d1 = rwAt m ρ c
      ∧ (dats m ρ 0 c).before (2 : Fin 5) t₀ d2 = riAt m ρ c ∧ (dats m ρ 0 c).before (3 : Fin 5) t₀ d3 = ewAt m ρ c := by
  unfold Dat.before
  refine ⟨?_, ?_, ?_, ?_⟩
  · rw [if_pos (fetch0_0 t₀)]; rfl
  · rw [if_pos (fetch0_1 t₀)]; rfl
  · rw [if_pos (fetch0_2 t₀)]; rfl
  · rw [if_pos (fetch0_3 t₀)]; rfl

/-- A staging buffer whose contents are known. -/
abbrev Held (c : Dev nD) (b : Ref sig .tc) (X : b.ty.Contents (Elt F)) : sProp 𝕄 :=
  iprop(∃ f : Buf (Elt F) ((c : Thread nD τ).loc b), ⌜f = X⌝ ∗ Pts c b f)

def bodyPre (c : Dev nD) : sProp 𝕄 :=
  iprop(Φ₀ (P m ρ) c ∗ (dats m ρ 0 c).owesAt () t₀.castSucc
    ∗ (∃ d, Held c cc0_stg0_0 ((dats m ρ 0 c).before (0 : Fin 5) t₀ d)) ∗ (∃ d, Held c cc0_stg1_0 ((dats m ρ 0 c).before (1 : Fin 5) t₀ d))
    ∗ (∃ d, Held c cc0_stg2_0 ((dats m ρ 0 c).before (2 : Fin 5) t₀ d)) ∗ (∃ d, Held c cc0_stg3_0 ((dats m ρ 0 c).before (3 : Fin 5) t₀ d))
    ∗ (∃ d, Held c cc0_stg4_0 ((dats m ρ 0 c).before (4 : Fin 5) t₀ d)))

def bodyPost (c : Dev nD) : sProp 𝕄 :=
  iprop(Φ₁ (P m ρ) c ∗ (dats m ρ 0 c).owesAt () t₀.succ
    ∗ Held c cc0_stg0_0 (xAt m ρ c) ∗ Held c cc0_stg1_0 (rwAt m ρ c) ∗ Held c cc0_stg2_0 (riAt m ρ c) ∗ Held c cc0_stg3_0 (ewAt m ρ c)
    ∗ Held c cc0_stg4_0 (outAt m ρ c))

/-- After the body everything is as the launch wants it. -/
theorem post_intro (c : Dev nD) :
    iprop(Φ₁ (P m ρ) c ∗ owesE c 0 ∗ Ins m ρ c ∗ Pts c cc0_stg4_0 (outAt m ρ c)) ⊢ bodyPost m ρ c := by
  unfold bodyPost Dat.owesAt Pipeline.owesWithin owesE Held
  rw [show (dats m ρ 0 c).owed t₀.succ = 0 from rfl]
  iintro ⟨H1, ⟨%W, HO⟩, ⟨Hx, Hr, Hi, Hw⟩, Ho⟩
  isplitl [H1]; · iexact H1
  isplitl [HO]
  · iexists W
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [Hw]
  · iexists _; isplitr; · (ipureintro; rfl)
    iexact Hw
  iexists _; isplitr; · (ipureintro; rfl)
  iexact Ho

set_option maxRecDepth 20000 in
/-- The body takes a device from what the launch hands it to what the launch wants back. -/
theorem body_obligation (c : Dev nD) : BodyObligation (dats (F := F) m ρ 0 c) (defs₀ (F := F)) 𝒱₀ () Set.univ := fun t => by
  rw [fin_N t]
  rw [bigSep_W0, bigSep_W0]
  simp only [owns_pts]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre Φ₀ start
  iintro ⟨⟨⟨⟨%K, Hg⟩, Hc⟩, ⟨%f0, H0⟩, ⟨%f1, H1⟩⟩, Ho, ⟨%d0, %g0, %e0, Hx⟩, ⟨%d1, %g1, %e1, Hr⟩, ⟨%d2, %g2, %e2, Hi⟩, ⟨%d3, %g3, %e3, Hw⟩, ⟨%d4, %g4, %e4, Hout⟩⟩
  obtain ⟨b0, b1, b2, b3⟩ := before_in m ρ c d0 d1 d2 d3
  rw [b0] at e0; rw [b1] at e1; rw [b2] at e2; rw [b3] at e3
  subst e0 e1 e2 e3
  iapply (body_run m ρ K c (fun _ => bodyPost m ρ c) f0 f1 g4)
  isplitl [Hg]; · iexact Hg
  isplitl [Hc]; · iexact Hc
  isplitl [H0]; · iexact H0
  isplitl [H1]; · iexact H1
  isplitl [Ho]
  · unfold Dat.owesAt Pipeline.owesWithin owesE
    icases Ho with ⟨%W, %hW, HO⟩
    iexists W
    iexact HO
  isplitl [Hx Hr Hi Hw]
  · isplitl [Hx]; · iexact Hx
    isplitl [Hr]; · iexact Hr
    isplitl [Hi] <;> iassumption
  isplitl [Hout]; · iexact Hout
  iintro H
  iapply (post_intro m ρ c)
  iexact H

/-! ## The cells and the tokens -/

theorem ownSemFacts : Pipeline.OwnSemFacts cfg0.spec osem where
  isScoped := by decide
  inj a b h := Option.some.inj (csem_injective (show csem (some a) = csem (some b) from h))
  disj := by decide

theorem share_eq (c : Dev nD) (w : Fin cfg0.W) : (dats m ρ 0 c).share w = fullShare := by unfold Dat.share; split <;> rfl

theorem kcell_injective : Function.Injective kcell := by
  rintro ⟨c, k⟩ ⟨c', k'⟩ h
  obtain rfl : c = c' := congrArg (fun g : GSem nD τ sig => g.1.1) h
  obtain rfl : k = k' := csem_injective (congrArg Prod.snd h)
  rfl

abbrev CellIx : Type := Dev nD × Option (Bool × Fin 15)

/-- All cells of all devices. -/
def allCells : Finset (GSem nD τ sig) := Finset.univ.map ⟨kcell, kcell_injective⟩

/-- Each device's own cells' duties: its barrier's fifteen, one for each send semaphore, one for each receive semaphore. -/
abbrev TokIx : Type := Dev nD × (Fin 15 ⊕ Fin 15 ⊕ Fin 15)
def tokOf : TokIx → GSem nD τ sig × ℕ × Fin 15
  | (c, .inl d) => (barCell c, 0, d)
  | (c, .inr (.inl k)) => (sendCell c k, 0, 0)
  | (c, .inr (.inr k)) => (recvCell c k, 0, 0)

theorem tokOf_injective : Function.Injective tokOf := by
  rintro ⟨c, j⟩ ⟨c', j'⟩ h
  obtain rfl : c = c' := by
    have := congrArg (fun x : GSem nD τ sig × ℕ × Fin 15 => x.1.1.1) h
    rcases j with d | k | k <;> rcases j' with d' | k' | k' <;> exact this
  have hs := congrArg (fun x : GSem nD τ sig × ℕ × Fin 15 => x.1.2) h
  rcases j with d | k | k <;> rcases j' with d' | k' | k'
  · have hd := congrArg (fun x : GSem nD τ sig × ℕ × Fin 15 => x.2.2) h
    rw [show d = d' from hd]
  · cases hs
  · cases hs
  · cases hs
  · rw [sendS_inj (dma_inj hs)]
  · exact absurd (dma_inj hs).symm (recvS_ne_sendS _ _)
  · cases hs
  · exact absurd (dma_inj hs) (recvS_ne_sendS _ _)
  · rw [recvS_inj (dma_inj hs)]

def allToks : Finset (GSem nD τ sig × ℕ × Fin 15) := Finset.univ.map ⟨tokOf, tokOf_injective⟩

/-- The launch's element: the staging protocol's and the devices' own. -/
def u₀ : UU :=
  (initOf (Pipeline.cells cfgs cellOf_inj) (Pipeline.launchToks cfgs cellOf_inj), initOf allCells allToks)

/-- The tokens of device `c`'s own cells. -/
def ownToks (c : Dev nD) : sProp 𝕄 :=
  iprop((bigSep Finset.univ fun d : Fin 15 => dutyTok ER (barCell c) 0 d) ∗ (bigSep Finset.univ (sendTok c))
    ∗ bigSep Finset.univ fun k : Fin 15 => dutyTok ER (recvCell c k) 0 0)

variable (Q : Dev nD → (cc0_scratch0 : Ref sig .tc).ty.Contents (Elt F))

/-- What the launch's element gives device `c`; what the global step makes of it. -/
def G (c : Dev nD) : sProp 𝕄 :=
  iprop((bigSep Finset.univ fun k => roundState ER (sched Q) (kcell (c, k)) 0)
    ∗ (bigSep Finset.univ fun k => iprop(atPos ER (kcell (c, k)) 0 ∅ 0 ∗ reached ER (kcell (c, k)) 0)) ∗ ownToks c)
def G' (c : Dev nD) : sProp 𝕄 := iprop(∃ K, ghost Q K c)

omit [FloatOps F] in
/-- A separating conjunction over all cells, device by device. -/
theorem over_cells (Φ : GSem nD τ sig → sProp 𝕄) :
    bigSep allCells Φ = bigSep Finset.univ fun c : Dev nD => bigSep Finset.univ fun k => Φ (kcell (c, k)) := by
  unfold allCells; rw [bigSep_map, bigSep_univ_prod]; rfl

omit [FloatOps F] in
theorem over_toks : bigSep allToks (fun x => (dutyTok ER x.1 x.2.1 x.2.2 : sProp 𝕄)) = bigSep Finset.univ fun c : Dev nD => ownToks c := by
  unfold allToks; rw [bigSep_map, bigSep_univ_prod]
  exact bigSep_congr fun c _ => by unfold ownToks; rw [bigSep_univ_sum, bigSep_univ_sum]; rfl

omit [FloatOps F] in
/-- A separating conjunction over a device's cells: the barrier, the sends, the receives. -/
theorem over_csem (Φ : Option (Bool × Fin 15) → sProp 𝕄) :
    bigSep Finset.univ Φ = iprop(Φ none ∗ (bigSep Finset.univ fun k => Φ (some (false, k))) ∗ bigSep Finset.univ fun k => Φ (some (true, k))) := by
  rw [bigSep_univ_equiv (Equiv.optionEquivSumPUnit.{0} (Bool × Fin 15)).symm Φ, bigSep_univ_sum, bigSep_univ_prod,
    bigSep_univ_eq_bigSepL [false, true] (by decide) (by decide), bigSep_univ_of_subsingleton (PUnit.unit : PUnit.{1})]
  exact BI.Entails.antisymm BI.sep_comm BI.sep_comm

omit [FloatOps F] in
theorem deal : BI.own (ER (initOf allCells allToks)) ⊢ (|==> bigSep Finset.univ (G Q) : sProp 𝕄) := by
  iintro HX
  imod (Rounds.fund ER (sched Q) allCells allToks) $$ HX with ⟨Hst, Hr, Hat, Htok⟩
  imodintro
  ihave Hst' := (Entails.of_eq (over_cells fun g => roundState ER (sched Q) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_toks (F := F))) $$ Htok
  unfold G; simp only [bigSep_sep']
  isplitl [Hst']; · iexact Hst'
  isplitl [Hat' Hr']
  · isplitl [Hat'] <;> iassumption
  iexact Htok'

omit [FloatOps F] in
/-- The barrier semaphore is the one semaphore of a device that outlives the kernel. -/
theorem unscoped_bar (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's own semaphores: the sends and the receives. -/
theorem own_sems (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0
  rw [bigSep_univ_prod, bigSep_univ_eq_bigSepL [false, true] (by decide) (by decide)]
  rfl

omit [FloatOps F] in
theorem sems_all (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [own_sems, unscoped_bar, over_csem]
  iintro ⟨⟨HS, HV⟩, HB⟩
  isplitl [HB]; · iexact HB
  isplitl [HS]; · iexact HS
  iexact HV

omit [FloatOps F] in
/-- A device's cells get their invariants. -/
theorem cells_alloc (c : Dev nD) :
    iprop((bigSep Finset.univ fun k => semVal (kcell (c, k)) 0) ∗ bigSep Finset.univ fun k => roundState ER (sched Q) (kcell (c, k)) 0)
      ⊢ (|={Set.univ}=> bigSep Finset.univ fun k => iprop(∃ κ : ℕ, cellInv ER (sched Q) κ (kcell (c, k))) : sProp 𝕄) := by
  rw [← bigSep_sep']
  exact (bigSep_mono fun k _ => (Rounds.body_intro ER (sched Q) (kcell (c, k))).trans inv_alloc).trans (bigSep_fupd _ _)

omit [FloatOps F] in
theorem device_alloc (c : Dev nD) :
    iprop(Pipeline.ownSems0 (Ix := Unit) (Name := ℕ) (U := UU) (Lvl := ℕ) (Val := Elt F) (τ := τ) osem c ∗ unscopedSems0 c ∗ G Q c)
      ⊢ |={Set.univ}=> iprop((bigSep Finset.univ fun k => iprop(∃ κ : ℕ, cellInv ER (sched Q) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems_all (F := F) c) $$ [Hos Hus]
  · isplitl [Hos] <;> iassumption
  imod (cells_alloc Q c) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 := iprop(bigSep Finset.univ (barTok c) ∗ bigSep Finset.univ (sendTok c) ∗ bigSep Finset.univ (recvTok c))

/-- Where a barrier's token goes, and where a receive semaphore's: both are permutations of the pairs. -/
def barMove : Dev nD × Fin 15 ≃ Dev nD × Fin 15 where
  toFun p := (up p.2 p.1, rev p.2)
  invFun p := (up p.2 p.1, rev p.2)
  left_inv p := Prod.ext (by show up (rev p.2) (up p.2 p.1) = p.1; rw [up_rev, dn_up]) (rev_rev p.2)
  right_inv p := Prod.ext (by show up (rev p.2) (up p.2 p.1) = p.1; rw [up_rev, dn_up]) (rev_rev p.2)
def recvMove : Dev nD × Fin 15 ≃ Dev nD × Fin 15 where
  toFun p := (up p.2 p.1, p.2)
  invFun p := (dn p.2 p.1, p.2)
  left_inv p := Prod.ext (dn_up p.2 p.1) rfl
  right_inv p := Prod.ext (up_dn p.2 p.1) rfl

omit [FloatOps F] in
/-- A conjunction over devices and numbers may be taken along a permutation of the pairs. -/
theorem moved (e : Dev nD × Fin 15 ≃ Dev nD × Fin 15) (Φ : Dev nD × Fin 15 → sProp 𝕄) :
    (bigSep Finset.univ fun c => bigSep Finset.univ fun k => Φ (c, k)) = bigSep Finset.univ fun c => bigSep Finset.univ fun k => Φ (e (c, k)) := by
  rw [← bigSep_univ_prod Φ, bigSep_univ_equiv e Φ, bigSep_univ_prod]

omit [FloatOps F] in
theorem toks_dealt : (bigSep Finset.univ fun c : Dev nD => (ownToks c : sProp 𝕄)) = bigSep Finset.univ fun c : Dev nD => payToks c := by
  unfold ownToks payToks
  rw [bigSep_sep', bigSep_sep', bigSep_sep', bigSep_sep',
    moved barMove (fun p => (dutyTok ER (barCell p.1) 0 p.2 : sProp 𝕄)), moved recvMove (fun p => (dutyTok ER (recvCell p.1 p.2) 0 0 : sProp 𝕄))]
  rfl

/-- What stays with device `c`: its positions, and the tokens it pays with. -/
def linear (c : Dev nD) : sProp 𝕄 := iprop((bigSep Finset.univ fun k => atPos ER (kcell (c, k)) 0 ∅ 0) ∗ payToks c)

omit [FloatOps F] in
theorem ghost_intro (K : Names) (c : Dev nD) : iprop(records Q K ∗ linear c) ⊢ G' Q c := by
  unfold linear payToks G' ghost
  rw [over_csem]
  iintro ⟨#HR, ⟨HaB, HaS, HaV⟩, HtB, HtS, HtV⟩
  iexists K
  isplitr; · iexact HR
  isplitl [HaB]; · iexact HaB
  isplitl [HaS]; · iexact HaS
  isplitl [HaV]; · iexact HaV
  isplitl [HtB]; · iexact HtB
  isplitl [HtS] <;> iassumption

omit [FloatOps F] in
/-- What everyone knows may be used at every device. -/
theorem share_records (K : Names) :
    iprop(records Q K ∗ bigSep Finset.univ fun c : Dev nD => linear c) ⊢ bigSep Finset.univ (G' Q) :=
  (sep_mono_left (BI.bigSep_of_persistent Finset.univ (records Q K))).trans
    (by rw [← bigSep_sep']; exact bigSep_mono fun c _ => ghost_intro Q K c)

omit [FloatOps F] in
theorem linear_all :
    (bigSep Finset.univ fun c : Dev nD => (linear c : sProp 𝕄))
      = iprop((bigSep Finset.univ fun c : Dev nD => bigSep Finset.univ fun k => atPos ER (kcell (c, k)) 0 ∅ 0) ∗ bigSep Finset.univ fun c : Dev nD => ownToks c) := by
  unfold linear; rw [bigSep_sep', toks_dealt]

omit [FloatOps F] in
theorem known_all :
    (bigSep Finset.univ fun c : Dev nD => bigSep Finset.univ fun k => iprop(atPos ER (kcell (c, k)) 0 ∅ 0 ∗ reached ER (kcell (c, k)) 0) : sProp 𝕄)
      = iprop((bigSep Finset.univ fun c : Dev nD => bigSep Finset.univ fun k => atPos ER (kcell (c, k)) 0 ∅ 0)
          ∗ bigSep Finset.univ fun ck : CellIx => reached ER (kcell ck) 0) := by
  rw [bigSep_univ_prod (fun ck : CellIx => (reached ER (kcell ck) 0 : sProp 𝕄)), ← bigSep_sep']
  exact bigSep_congr fun c _ => bigSep_sep' _ _ _

omit [FloatOps F] in
theorem regroup :
    (bigSep Finset.univ fun c : Dev nD => iprop((bigSep Finset.univ fun k => iprop(∃ κ : ℕ, cellInv ER (sched Q) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' Q) := by
  rw [bigSep_sep', bigSep_sep', ← bigSep_univ_prod (fun ck : CellIx => iprop(∃ κ : ℕ, cellInv ER (sched Q) κ (kcell ck))), known_all]
  iintro ⟨HI, ⟨Hat, #HR⟩, Htok⟩
  ihave HK := (BI.bigSep_exists_pi Finset.univ (fun (ck : CellIx) (κ : ℕ) => (cellInv ER (sched Q) κ (kcell ck) : sProp 𝕄))) $$ HI
  icases HK with ⟨%K, #HI⟩
  iapply (share_records Q K)
  isplitr
  · unfold records; isplitl; · iexact HI
    iexact HR
  · iapply (Entails.of_eq (linear_all (F := F)).symm)
    isplitl [Hat]; · iexact Hat
    iexact Htok

omit [FloatOps F] in
/-- The global step of the launch. -/
theorem glob : (bigSep Finset.univ fun c => iprop(Pipeline.ownSems0 (Ix := Unit) (Name := ℕ) (U := UU) (Lvl := ℕ) (Val := Elt F) (τ := τ) osem c ∗ unscopedSems0 c ∗ G Q c) : sProp 𝕄)
    ⊢ |={Set.univ}=> bigSep Finset.univ (G' Q) :=
  ((bigSep_mono fun c _ => device_alloc Q c).trans (bigSep_fupd _ _)).trans (BI.fupd_mono (regroup Q))

/-! ## The launch's credit -/

theorem owed_bar (d c : Dev nD) : oBar d 0 (barCell c) () = ∑ k : Fin 15, if d = dn k c then 1 else 0 := by
  unfold oBar
  rw [Finset.sum_apply, Finsupp.finset_sum_apply, show (Finset.univ.filter fun k : Fin 15 => 0 ≤ k.val) = Finset.univ by decide]
  refine Finset.sum_congr rfl fun k _ => ?_
  rw [tallyAt_apply]
  refine if_congr ⟨fun h => ?_, fun h => ?_⟩ rfl rfl
  · have h1 : c = up k d := congrArg (fun g : GSem nD τ sig => g.1.1) h.1
    rw [h1, dn_up]
  · rw [h, up_dn]; exact ⟨rfl, rfl⟩

theorem owed_recv (d c : Dev nD) (k : Fin 15) : oRecv d 0 (recvCell c k) () = ∑ k' : Fin 15, if d = dn k c then (if k' = k then N else 0) else 0 := by
  unfold oRecv
  rw [Finset.sum_apply, Finsupp.finset_sum_apply, show (Finset.univ.filter fun k : Fin 15 => 0 ≤ k.val) = Finset.univ by decide]
  refine Finset.sum_congr rfl fun k' _ => ?_
  rw [tallyAt_apply]
  by_cases h : recvCell c k = recvCell (up k' d) k'
  · have h1 : c = up k' d := congrArg (fun g : GSem nD τ sig => g.1.1) h
    have h2 : k = k' := recvS_inj (dma_inj (congrArg Prod.snd h))
    rw [if_pos ⟨h, rfl⟩, if_pos (by rw [h2, h1, dn_up]), if_pos h2.symm]
  · rw [if_neg fun h' => h h'.1]
    split_ifs with h1 h2
    · exact absurd (by rw [h2, h1, up_dn]) h
    · rfl
    · rfl

theorem launch_bar (c : Dev nD) :
    tallyOn (barCell c) (launchCredit (Pipeline.owing fun d => oBar d 0) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (dn k c) fun _ => 1).trans (if_pos (Finset.mem_univ _))]
  rfl

theorem launch_recv (c : Dev nD) (k : Fin 15) :
    tallyOn (recvCell c k) (launchCredit (Pipeline.owing fun d => oRecv d 0) 0 (recvCell c k))
      = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_comm,
    Finset.sum_congr rfl fun k' _ => (Finset.sum_ite_eq' Finset.univ (dn k c) fun _ => if k' = k then N else 0).trans (if_pos (Finset.mem_univ _)),
    Finset.sum_ite_eq' Finset.univ k fun _ => N, if_pos (Finset.mem_univ _)]

def recvSems : Finset (SemLoc sig) :=
  Finset.univ.map ⟨fun k : Fin 15 => (SemLoc.dma (recvS k) : SemLoc sig), fun _ _ h => recvS_inj (dma_inj h)⟩

omit [FloatOps F] in
theorem creds (c : Dev nD) :
    (Pipeline.launchCred O₀ c : sProp 𝕄) ⊢ iprop(cred (tallyAt (barCell c) () 15) ∗ bigSep Finset.univ (recvCred c)) := by
  rw [show (O₀ : Dev nD → CellTallies nD τ sig Unit) = fun d => oBar d 0 + oRecv d 0 from rfl, Pipeline.launchCred_add]
  refine BI.sep_mono ?_ ?_
  · rw [← launch_bar]
    exact Pipeline.launchCred_elim _ c (SemLoc.reg barS)
  · unfold Pipeline.launchCred
    refine (bigSep_subset (Finset.subset_univ recvSems)).trans ?_
    unfold recvSems
    rw [bigSep_map]
    refine bigSep_mono fun k _ => ?_
    unfold recvCred
    rw [← launch_recv]
    exact BI.Entails.refl _

/-! ## The launch's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' Q c)
      ⊢ |={Set.univ}=> iprop(start Q c ∗ emp) := by
  iintro ⟨-, Hlev, Hcr, -, HG⟩
  ihave Hc := (creds (F := F) c) $$ Hcr
  icases Hc with ⟨H1, HN⟩
  imodintro
  unfold start credit G'
  isplitl
  · isplitl [HG]; · iexact HG
    isplitl [H1]; · iexact H1
    isplitl [HN] <;> iassumption
  · iempintro

theorem phi0_intro (c : Dev nD) :
    iprop(start (P m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (P m ρ) c from rfl, scopedRest0_eq]
  unfold Φ₀
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (P m ρ) c from rfl, scopedRest0_eq, own_sems, unscoped_bar]
  unfold Φ₁
  iintro ⟨H0, H1, HzS, HzV, HzB⟩
  isplitl [HzB]; · iexact HzB
  isplitl [HzS HzV]
  · isplitl [HzS] <;> iassumption
  isplitl [H0]
  · iexists (P m ρ c); iexact H0
  iexists (landed (P m ρ) c); iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, on any float values, every fair run of the sixteen devices ends, each
    device's arrays are as computed, and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ)
    (hdistinct := winFacts0.arr_inj)
    (O₀ := O₀) (howed₀ := fun _ => rfl) (howedN := fun _ => rfl)
    (L := L) (lv := lv) (hL := L_of_ne) (hwaits := waits m ρ)
    (G := G (P m ρ)) (G' := G' (P m ρ)) (u₀ := u₀)
    (hu₀ := by
      unfold u₀
      iintro Hu
      ihave H := (ownU_pair _ _) $$ Hu
      icases H with ⟨HP, HX⟩
      imod (deal (P m ρ)) $$ HX with HG
      imodintro
      isplitl [HP] <;> iassumption)
    (hglob := glob (P m ρ))
    (hA := fun _ _ => rfl) (hpf := fun _ k => k.elim0)
    (X := start (P m ρ)) (Y := fun c => unscopedSems0 c) (Z := fun _ => iprop(emp))
    (hX := start_intro m ρ (P m ρ)) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array holds in the end what it held. -/
theorem finalA_in (c : Dev nD) (w : Fin cfg0.W) (hw : w.val < 4) : finalA m ρ c w = (s₀ m ρ).mem ((cfg0.win w).arr.view.loc (c : Thread nD τ)) := by
  match w, hw with
  | ⟨0, _⟩, _ => exact (dats (F := F) m ρ 0 c).arrAt_in (0 : Fin 5) rfl _
  | ⟨1, _⟩, _ => exact (dats (F := F) m ρ 0 c).arrAt_in (1 : Fin 5) rfl _
  | ⟨2, _⟩, _ => exact (dats (F := F) m ρ 0 c).arrAt_in (2 : Fin 5) rfl _
  | ⟨3, _⟩, _ => exact (dats (F := F) m ρ 0 c).arrAt_in (3 : Fin 5) rfl _

/-- The run, array by array: each device's arguments are unchanged, its result is what the last window's array holds in
    the end, and every counter is at zero. -/
theorem run_arrays : θ_run defs (onTc (τ := τ) (main (F := F))) (s₀ m ρ) (fun r => (∀ c : Dev nD,
      r.2.mem ((c.tc : Thread nD τ).loc main_v1) = finalA m ρ c (4 : Fin 5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨h.1 c (4 : Fin 5), (h.1 c (0 : Fin 5)).trans (finalA_in m ρ c 0 (by decide)),
    (h.1 c (1 : Fin 5)).trans (finalA_in m ρ c 1 (by decide)), (h.1 c (2 : Fin 5)).trans (finalA_in m ρ c 2 (by decide)),
    (h.1 c (3 : Fin 5)).trans (finalA_in m ρ c 3 (by decide))⟩, h.2⟩) (run_main m ρ)

end Cert.KernelIdeal.Moe

end
-- ==== Proof.Value.Terms.lean ====
/-
The mixture of two experts as a function of extended reals, and the equation between its two forms.

The kernel weighs each token by a gate for every expert and adds the experts' results; the gate of an expert the token is
not routed to is zero. The reference reads the two chosen experts' weights and adds two weighted results, its weights
being the chosen softmax probabilities over their sum. With finite scores the two agree.
-/
module

public import Idealize.ShloMosaic.Lib.Pointwise

@[expose] public section

noncomputable section

namespace Cert.Moe

open Idealize.ShloMosaic

/-! ## Numbers that are real -/

/-- An extended real that is a real number. -/
def IsReal (v : EReal) : Prop := ∃ a : ℝ, v = (a : EReal)

theorem IsReal.add {u v : EReal} (hu : IsReal u) (hv : IsReal v) : IsReal (u + v) := by
  obtain ⟨a, rfl⟩ := hu; obtain ⟨b, rfl⟩ := hv; exact ⟨a + b, (EReal.coe_add a b).symm⟩

theorem IsReal.mul {u v : EReal} (hu : IsReal u) (hv : IsReal v) : IsReal (u * v) := by
  obtain ⟨a, rfl⟩ := hu; obtain ⟨b, rfl⟩ := hv; exact ⟨a * b, (EReal.coe_mul a b).symm⟩

theorem IsReal.sum {ι : Type} (s : Finset ι) {f : ι → EReal} (h : ∀ i, IsReal (f i)) : IsReal (∑ i ∈ s, f i) :=
  Finset.sum_induction f IsReal (fun _ _ => IsReal.add) ⟨0, EReal.coe_zero.symm⟩ fun i _ => h i

theorem isReal_of_lt {v : EReal} (h : ⊥ < v) (h' : v < ⊤) : IsReal v :=
  ⟨v.toReal, (EReal.coe_toReal h'.ne h.ne').symm⟩

theorem IsReal.bot_lt {v : EReal} (h : IsReal v) : ⊥ < v := by obtain ⟨a, rfl⟩ := h; exact EReal.bot_lt_coe a
theorem IsReal.lt_top {v : EReal} (h : IsReal v) : v < ⊤ := by obtain ⟨a, rfl⟩ := h; exact EReal.coe_lt_top a

/-- The division of the two float programs on real numbers, the divisor positive. -/
theorem div_coe (a : ℝ) {b : ℝ} (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- A nonnegative real factor goes into a sum of extended reals. -/
theorem coe_mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-! ## The router -/

variable (x : (⟨2, ![256, 128]⟩ : Shape).Idx → EReal) (r : (⟨2, ![128, 32]⟩ : Shape).Idx → EReal)

/-- A token's score for an expert. -/
def score (t : Fin 256) (e : Fin 32) : EReal := ∑ k : Fin 128, x (ix2 t k) * r (ix2 k e)

/-- A token's largest score. -/
def top (t : Fin 256) : EReal := Finset.univ.fold max (Ideal.ofBits .f32 0xFF800000#32) (score x r t)

/-- The exponential of a score less the token's largest. -/
def ex (t : Fin 256) (e : Fin 32) : EReal := Ideal.exp (score x r t e - top x r t)

/-- The pattern the maximum starts from is minus infinity. -/
theorem negInf : Ideal.ofBits .f32 0xFF800000#32 = ⊥ := by
  simp [Ideal.ofBits, Ideal.ieee]

variable {x r} (hx : ∀ i, IsReal (x i)) (hr : ∀ i, IsReal (r i))
include hx hr

theorem score_real (t : Fin 256) (e : Fin 32) : IsReal (score x r t e) :=
  IsReal.sum _ fun _ => (hx _).mul (hr _)

theorem top_real (t : Fin 256) : IsReal (top x r t) := by
  refine isReal_of_lt ?_ ?_
  · exact (Finset.lt_fold_max _).mpr (Or.inr ⟨0, Finset.mem_univ _, (score_real hx hr t 0).bot_lt⟩)
  · refine (Finset.fold_max_lt _).mpr ⟨?_, fun e _ => (score_real hx hr t e).lt_top⟩
    rw [negInf]; exact bot_lt_top

/-- With finite inputs every exponential is a positive real. -/
theorem ex_pos (t : Fin 256) (e : Fin 32) : ∃ a : ℝ, 0 < a ∧ ex x r t e = (a : EReal) := by
  obtain ⟨a, ha⟩ := score_real hx hr t e
  obtain ⟨b, hb⟩ := top_real hx hr t
  refine ⟨Real.exp (a - b), Real.exp_pos _, ?_⟩
  unfold ex
  rw [ha, hb, ← EReal.coe_sub]
  rfl

omit hx hr

/-! ## The two forms -/

/-- The weight of one of two numbers in their sum. -/
def share (g h : EReal) : EReal := Ideal.div g (g + h)

/-- Expert `e`'s gate for a token routed to `i` and `j`. -/
def gate (p : Fin 32 → EReal) (i j e : Fin 32) : EReal :=
  Ideal.div ((if i = e then p i else 0) + (if j = e then p j else 0)) (p i + p j)

/-- The sum over all the experts with their gates is the sum of the two chosen experts with their weights. -/
theorem sum_gates (p : Fin 32 → EReal) (hp : ∀ e, ∃ a : ℝ, 0 < a ∧ p e = (a : EReal)) (i j : Fin 32)
    (u : Fin 128 → EReal) (W : Fin 32 → Fin 128 → EReal) :
    ∑ e : Fin 32, ∑ d : Fin 128, u d * gate p i j e * W e d
      = share (p i) (p j) * (∑ d : Fin 128, u d * W i d) + share (p j) (p i) * ∑ d : Fin 128, u d * W j d := by
  obtain ⟨a, ha, hi⟩ := hp i
  obtain ⟨b, hb, hj⟩ := hp j
  have hab : 0 < a + b := add_pos ha hb
  have hsi : share (p i) (p j) = ((a / (a + b) : ℝ) : EReal) := by
    unfold share; rw [hi, hj, ← EReal.coe_add, div_coe a hab]
  have hsj : share (p j) (p i) = ((b / (a + b) : ℝ) : EReal) := by
    unfold share; rw [hi, hj, add_comm, ← EReal.coe_add, div_coe b hab]
  have hg (e : Fin 32) : gate p i j e = (((if i = e then a / (a + b) else 0 : ℝ)) : EReal) + (((if j = e then b / (a + b) else 0 : ℝ)) : EReal) := by
    unfold gate
    rw [hi, hj, ← EReal.coe_add]
    have h0 (q : Prop) [Decidable q] (v : ℝ) : (if q then (v : EReal) else 0) = ((if q then v else 0 : ℝ) : EReal) := by
      split <;> rfl
    rw [h0, h0, ← EReal.coe_add, div_coe _ hab, ← EReal.coe_add, add_div]
    congr 2 <;> split <;> simp
  have hn (q : Prop) [Decidable q] {v : ℝ} (hv : 0 < v) : (0 : ℝ) ≤ if q then v / (a + b) else 0 := by
    split
    · exact (div_pos hv hab).le
    · exact le_rfl
  have step (e : Fin 32) : ∑ d : Fin 128, u d * gate p i j e * W e d
      = (((if i = e then a / (a + b) else 0 : ℝ)) : EReal) * (∑ d : Fin 128, u d * W e d)
        + (((if j = e then b / (a + b) else 0 : ℝ)) : EReal) * ∑ d : Fin 128, u d * W e d := by
    rw [coe_mul_sum _ (hn _ ha), coe_mul_sum _ (hn _ hb), ← Finset.sum_add_distrib]
    refine Finset.sum_congr rfl fun d _ => ?_
    rw [mul_comm (u d), mul_assoc, hg e]
    exact EReal.right_distrib_of_nonneg (by exact_mod_cast hn _ ha) (by exact_mod_cast hn _ hb)
  rw [Finset.sum_congr rfl fun e _ => step e, Finset.sum_add_distrib, hsi, hsj]
  have one (k : Fin 32) (v : ℝ) (Y : Fin 32 → EReal) :
      ∑ e : Fin 32, (((if k = e then v else 0 : ℝ)) : EReal) * Y e = (v : EReal) * Y k := by
    rw [Finset.sum_eq_single k]
    · rw [if_pos rfl]
    · intro e _ he; rw [if_neg (Ne.symm he), EReal.coe_zero, zero_mul]
    · intro h; exact absurd (Finset.mem_univ k) h
  rw [one, one]

/-- The weight of a probability in the sum of two is the weight of the exponential it comes from. -/
theorem share_probs (p : Fin 32 → EReal) (hp : ∀ e, ∃ a : ℝ, 0 < a ∧ p e = (a : EReal)) (i j : Fin 32) :
    share (Ideal.div (p i) (∑ e, p e)) (Ideal.div (p j) (∑ e, p e)) = share (p i) (p j) := by
  choose q hq hpq using hp
  have hS : ∑ e, p e = ((∑ e, q e : ℝ) : EReal) := by
    rw [Finset.sum_congr rfl fun e _ => hpq e]
    exact (map_sum (⟨⟨Real.toEReal, EReal.coe_zero⟩, EReal.coe_add⟩ : ℝ →+ EReal) q Finset.univ).symm
  have hs : 0 < ∑ e, q e := Finset.sum_pos (fun e _ => hq e) ⟨0, Finset.mem_univ _⟩
  unfold share
  rw [hS, hpq i, hpq j, div_coe _ hs, div_coe _ hs, ← EReal.coe_add, ← EReal.coe_add,
    div_coe _ (add_pos (div_pos (hq i) hs) (div_pos (hq j) hs)), div_coe _ (add_pos (hq i) (hq j)), ← add_div,
    div_div_div_cancel_right₀ hs.ne']

end Cert.Moe
-- ==== Proof.Value.KernelPart.lean ====
/-
What one device's partial result is, element by element, over the extended reals: the sum over the device's own two
experts of a token's row, times the token's gate for the expert, times the expert's weights.
-/
module

public import proofs.«01_k».proof.Proof.Ideal.Data
public import proofs.«01_k».proof.Proof.Value.Terms

@[expose] public section

noncomputable section

namespace Cert.KernelIdeal.Moe

open Cert.KernelIdeal Cert.KernelIdeal.Gen Cert.Moe
open Idealize.ShloMosaic

/-- A choice on the equality of two words. -/
theorem select_eq {α : Type} (a b : BitVec 32) (u v : α) :
    Scalar.select (IntOp.cmpi .eq a b) u v = if a = b then u else v := by
  by_cases h : a = b
  · subst h; simp [Scalar.select, IntOp.cmpi]
  · simp [Scalar.select, IntOp.cmpi, h, beq_eq_false_iff_ne.mpr h]

/-- Two experts' numbers, as words, are equal only if the experts are. -/
theorem expert_word (i j : Fin 32) : BitVec.ofNat 32 i.val = BitVec.ofNat 32 j.val ↔ i = j := by
  refine ⟨fun h => Fin.ext ?_, fun h => by rw [h]⟩
  have h' := congrArg BitVec.toNat h
  rw [BitVec.toNat_ofNat, BitVec.toNat_ofNat] at h'
  omega

variable (x : Vec Ideal S256x128 .bf16) (rw' : Vec Ideal S128x32 .bf16) (ri : Vec Ideal S256x2 .i32)

/-- The kernel's exponentials. -/
theorem exps_apply (t : Fin 256) (e : Fin 32) : (k0_pay2 x rw' : FVec Ideal S256x32 .f32) (ix2 t e) = ex x rw' t e := by
  pointwise [k0_pay2, k0_pay1, dot_S256x128_S128x32_S256x32_1_0_0_1_n_n]
  rfl

/-- The sum of a row of which one entry is kept is that entry. -/
theorem lane_sum (p : Fin 32 → EReal) (i : Fin 32) :
    ∑ e : Fin 32, Scalar.select (IntOp.cmpi .eq (BitVec.ofNat 32 e.val) (BitVec.ofNat 32 i.val)) (p e) 0 = p i := by
  rw [Finset.sum_eq_single i]
  · rw [select_eq, if_pos rfl]
  · intro e _ he; rw [select_eq, if_neg fun h => he ((expert_word e i).mp h)]
  · intro h; exact absurd (Finset.mem_univ i) h

variable {ri} {i j : Fin 256 → Fin 32} (hi : ∀ t, ri (ix2 t 0) = BitVec.ofNat 32 (i t).val)
  (hj : ∀ t, ri (ix2 t 1) = BitVec.ofNat 32 (j t).val)

include hi in
/-- The exponential of a token's first expert. -/
theorem first_apply (t : Fin 256) : (k0_pay6 x rw' ri : FVec Ideal S256x1 .f32) (ix2 t 0) = ex x rw' t (i t) := by
  generalize hp : k0_pay2 x rw' = p
  pointwise [k0_pay6, hp, k0_pay3, k0_pay4]
  rw [hi, ← hp, ← lane_sum (ex x rw' t)]
  exact Finset.sum_congr rfl fun e _ => by rw [exps_apply]

include hj in
/-- The exponential of a token's second expert. -/
theorem second_apply (t : Fin 256) : (k0_pay7 x rw' ri : FVec Ideal S256x1 .f32) (ix2 t 0) = ex x rw' t (j t) := by
  generalize hp : k0_pay2 x rw' = p
  pointwise [k0_pay7, hp, k0_pay3, k0_pay5]
  rw [hj, ← hp, ← lane_sum (ex x rw' t)]
  exact Finset.sum_congr rfl fun e _ => by rw [exps_apply]

include hi hj in
/-- A device's partial result: `e₀` and `e₁` are its two experts. -/
theorem partialOf_apply (v2 : BitVec 32) (e₀ e₁ : Fin 32) (h₀ : Scalar.addi (Scalar.muli v2 2#32) 0#32 = BitVec.ofNat 32 e₀.val)
    (h₁ : Scalar.addi (Scalar.muli v2 2#32) 1#32 = BitVec.ofNat 32 e₁.val) (ew : Vec Ideal S2x128x256 .bf16) (t : Fin 256) (o : Fin 256) :
    (partialOf v2 x rw' ri ew : FVec Ideal S256x256 .bf16) (ix2 t o)
      = (∑ d : Fin 128, x (ix2 t d) * gate (ex x rw' t) (i t) (j t) e₀ * ew (ix3 0 d o))
        + ∑ d : Fin 128, x (ix2 t d) * gate (ex x rw' t) (i t) (j t) e₁ * ew (ix3 1 d o) := by
  have hp := first_apply x rw' hi t
  have hq := second_apply x rw' hj t
  unfold partialOf
  unfold k0_pay8 k0_pay9
  generalize k0_pay6 x rw' ri = p at hp ⊢
  generalize k0_pay7 x rw' ri = q at hq ⊢
  pointwise [k0_pay12, k0_pay1, k0_pay11, k0_pay3, k0_pay4, k0_pay5, k0_pay10, dot_S256x256_S256x256_S256x256_1_0_0_1_n_n]
  rw [hi, hj, hp, hq, h₀, h₁]
  simp only [select_eq, expert_word]
  refine congrArg₂ (· + ·) (Finset.sum_congr rfl fun d _ => ?_) (Finset.sum_congr rfl fun d _ => ?_)
  · refine congrArg₂ (· * ·) rfl (congrArg ew (congrArg₂ (ix3 · · o) (Fin.ext ?_) (Fin.ext ?_)))
    · exact Nat.div_eq_of_lt d.isLt
    · exact Nat.mod_eq_of_lt d.isLt
  · refine congrArg₂ (· * ·) rfl (congrArg ew (congrArg₂ (ix3 · · o) (Fin.ext ?_) (Fin.ext ?_)))
    · show (128 + d.val) / 128 = 1; omega
    · show (128 + d.val) % 128 = d.val; omega

end Cert.KernelIdeal.Moe
-- ==== Proof.Value.Total.lean ====
/-
What one device's result is, element by element: the sum over all the devices of their partial results' rows for it.
-/
module

public import proofs.«01_k».proof.Proof.Ideal.Launch
public import proofs.«01_k».proof.Proof.Value.KernelPart
public import Idealize.ShloMosaic.Lib.Pipeline.Value

@[expose] public section

noncomputable section

namespace Cert.KernelIdeal.Moe

open Cert.KernelIdeal Cert.KernelIdeal.Gen Cert.Moe
open Idealize.ShloMosaic
open Idealize.ShloMosaic.TcCoe

variable (m : (ℓ : Loc nD τ sig) → Buf (Elt Ideal) ℓ) (ρ : Dev nD → PrngReg)

/-! ## The windows are whole arrays -/

/-- A place in a block which is the whole array, the block being the first and only one. -/
theorem whole_val (k n : ℕ) : 0 * k + 1 * n = n := by omega

theorem xAt_eq (c : Dev nD) : xAt m ρ c = m ((c : Thread nD τ).loc main_arg0) := by
  funext i
  refine congrArg (m ((c : Thread nD τ).loc main_arg0)) (funext fun a => Fin.ext ?_)
  match a with
  | ⟨0, _⟩ => exact whole_val 256 _
  | ⟨1, _⟩ => exact whole_val 128 _

theorem rwAt_eq (c : Dev nD) : rwAt m ρ c = m ((c : Thread nD τ).loc main_arg1) := by
  funext i
  refine congrArg (m ((c : Thread nD τ).loc main_arg1)) (funext fun a => Fin.ext ?_)
  match a with
  | ⟨0, _⟩ => exact whole_val 128 _
  | ⟨1, _⟩ => exact whole_val 32 _

theorem riAt_eq (c : Dev nD) : riAt m ρ c = m ((c : Thread nD τ).loc main_arg2) := by
  funext i
  refine congrArg (m ((c : Thread nD τ).loc main_arg2)) (funext fun a => Fin.ext ?_)
  match a with
  | ⟨0, _⟩ => exact whole_val 256 _
  | ⟨1, _⟩ => exact whole_val 2 _

theorem ewAt_eq (c : Dev nD) : ewAt m ρ c = m ((c : Thread nD τ).loc main_arg3) := by
  funext i
  refine congrArg (m ((c : Thread nD τ).loc main_arg3)) (funext fun a => Fin.ext ?_)
  match a with
  | ⟨0, _⟩ => exact whole_val 2 _
  | ⟨1, _⟩ => exact whole_val 128 _
  | ⟨2, _⟩ => exact whole_val 256 _

/-- Where the result's window puts an element: in its own place. -/
theorem out_emb (i : S16x256.Idx) : ((cfg0.win 4).blk t₀).view.emb i = i := by
  funext a
  refine Fin.ext ?_
  match a with
  | ⟨0, _⟩ => exact whole_val 16 _
  | ⟨1, _⟩ => exact whole_val 256 _

/-- The result array holds in the end the device's result. -/
theorem finalA_out (c : Dev nD) : finalA m ρ c (4 : Fin 5) = outAt m ρ c := by
  refine (dats m ρ 0 c).arrAt_eq_of_cover 4 (outAt m ρ c) (fun t _ => ?_) (fun i => ⟨t₀, flush0_4 _, ?_⟩)
  · obtain rfl := fin_N t
    funext i
    exact (congrArg (outAt m ρ c) (out_emb i)).symm
  · exact Finset.mem_map.mpr ⟨i, Finset.mem_univ _, out_emb i⟩

/-! ## The sum -/

/-- The kernel's chain of additions is a sum. -/
theorem sumOf_apply (o : Vec Ideal S16x256 .bf16) (s : Fin 15 → Vec Ideal S1x16x256 .bf16) (a : Fin 16) (b : Fin 256) :
    (sumOf o s : FVec Ideal S16x256 .f32) (ix2 a b) = o (ix2 a b) + ∑ k : Fin 15, s k (ix3 0 a b) := by
  unfold sumOf
  pointwise [k0_pay13, k0_pay14, k0_pay15, k0_pay16, k0_pay17, k0_pay18, k0_pay19, k0_pay20]
  simp only [Fin.sum_univ_succ, Fin.sum_univ_zero, add_zero, add_assoc]
  rfl

theorem ownRows_apply (c : Dev nD) (a : Fin 16) (b : Fin 256) :
    ownRows m ρ c (ix2 a b) = P m ρ c (ix2 (n0 := 256) (n1 := 256) ⟨16 * c.val + a.val, row_lt c a⟩ b) :=
  congrArg (P m ρ c) (row_emb c (ix2 a b))

/-- What one slot of the receive buffer holds, of any partial results. -/
theorem landed_slot (Q : Dev nD → S256x256.Idx → EReal) (c : Dev nD) (k : Fin 15) (a : Fin 16) (b : Fin 256) :
    (landed (F := Ideal) Q c ((slotRect k).emb (ix3 0 a b)) : EReal)
      = Q (dn k c) (ix2 (n0 := 256) (n1 := 256) ⟨16 * c.val + a.val, row_lt c a⟩ b) := by
  have h : ((slotRect k).emb (ix3 0 a b) : S15x16x256.Idx) = ix3 k a b := by
    funext q; refine Fin.ext ?_
    match q with
    | ⟨0, _⟩ => show k.val + 1 * 0 = k.val; omega
    | ⟨1, _⟩ => show 0 + 1 * a.val = a.val; omega
    | ⟨2, _⟩ => show 0 + 1 * b.val = b.val; omega
  rw [h]
  rfl

theorem slotRows_apply (c : Dev nD) (k : Fin 15) (a : Fin 16) (b : Fin 256) :
    slotRows m ρ c k (ix3 0 a b) = P m ρ (dn k c) (ix2 (n0 := 256) (n1 := 256) ⟨16 * c.val + a.val, row_lt c a⟩ b) :=
  landed_slot (P m ρ) c k a b

/-- A sum over all the devices is one device's term and those of the fifteen that send to it. -/
theorem sum_devices (c : Dev nD) (f : Dev nD → EReal) : f c + ∑ k : Fin 15, f (dn k c) = ∑ d : Dev nD, f d := by
  rw [← Finset.add_sum_erase Finset.univ f (Finset.mem_univ c)]
  congr 1
  rw [← Equiv.sum_comp flip]
  refine Finset.sum_bij (fun k _ => up k c) ?_ ?_ ?_ ?_
  · exact fun k _ => Finset.mem_erase.mpr ⟨up_ne k c, Finset.mem_univ _⟩
  · exact fun k _ k' _ h => up_inj c h
  · exact fun d hd => by
      obtain ⟨k, hk⟩ := exists_up c d (Finset.mem_erase.mp hd).1
      exact ⟨k, Finset.mem_univ _, hk⟩
  · intro k _
    show f (dn (rev k) c) = f (up k c)
    rw [← up_rev, rev_rev]

/-- An element of a device's partial result. -/
def part (d : Dev nD) (t o : Fin 256) : EReal := P m ρ d (ix2 t o)

/-- A device's result: all the devices' partial results for its rows, added. -/
theorem outAt_apply (c : Dev nD) (a : Fin 16) (b : Fin 256) :
    (outAt m ρ c : S16x256.Idx → EReal) (ix2 a b) = ∑ d : Dev nD, part m ρ d ⟨16 * c.val + a.val, row_lt c a⟩ b := by
  refine (sumOf_apply _ _ a b).trans ?_
  refine Eq.trans ?_ (sum_devices c fun d => part m ρ d ⟨16 * c.val + a.val, row_lt c a⟩ b)
  exact congrArg₂ (· + ·) (ownRows_apply m ρ c a b) (Finset.sum_congr rfl fun k _ => slotRows_apply m ρ c k a b)

end Cert.KernelIdeal.Moe
-- ==== Proof.Value.RefPart.lean ====
/-
What the reference's result is, element by element, over the extended reals.
-/
module

public import proofs.«01_k».proof.Proof.Gen.ReferenceIdeal.Run
public import proofs.«01_k».proof.Proof.Value.Terms

@[expose] public section

noncomputable section

namespace Cert.ReferenceIdeal.Moe

open Cert.ReferenceIdeal Cert.ReferenceIdeal.Gen Cert.Moe
open Idealize.ShloMosaic

/-- The gather of one probability per token: the row and the column are read signed off the two index columns, and clamped. -/
theorem pick_apply (p : FVec Ideal S256x32 .f32) (idx : IVec S256x2 32) (t : Fin 256) :
    Host.gather gather_S256x32_S256x2_S256_n_01_n_n_01_1_11 p idx (ix1 t)
      = p (ix2 ⟨min (idx (ix2 t 0)).toInt.toNat 255, by omega⟩ ⟨min (idx (ix2 t 1)).toInt.toNat 31, by omega⟩) := by
  unfold Host.gather
  congr 1
  funext a
  have hs (k : Fin 2) : gather_S256x32_S256x2_S256_n_01_n_n_01_1_11.siIdx (ix1 t) k = ix2 t k := by
    funext b; refine Fin.ext ?_
    match b with
    | ⟨0, _⟩ => rfl
    | ⟨1, _⟩ => rfl
  refine Fin.ext ?_
  match a with
  | ⟨0, _⟩ => exact congrArg (fun i => min (idx i).toInt.toNat 255) (hs 0)
  | ⟨1, _⟩ => exact congrArg (fun i => min (idx i).toInt.toNat 31) (hs 1)

/-- The gather of one expert's weights per token: the expert is read signed off the index column, and clamped. -/
theorem expert_apply (W : FVec Ideal S32x128x256 .f32) (idx : IVec S256x1 32) (t : Fin 256) (d : Fin 128) (o : Fin 256) :
    Host.gather gather_S32x128x256_S256x1_S256x128x256_12_0_n_n_0_1_1128256 W idx (ix3 t d o)
      = W (ix3 ⟨min (idx (ix2 t 0)).toInt.toNat 31, by omega⟩ d o) := by
  unfold Host.gather
  congr 1
  funext a
  have hs (k : Fin 1) : gather_S32x128x256_S256x1_S256x128x256_12_0_n_n_0_1_1128256.siIdx (ix3 t d o) k = ix2 t k := by
    funext b; refine Fin.ext ?_
    match b with
    | ⟨0, _⟩ => rfl
    | ⟨1, _⟩ => rfl
  refine Fin.ext ?_
  match a with
  | ⟨0, _⟩ => exact congrArg (fun i => min (idx i).toInt.toNat 31) (hs 0)
  | ⟨1, _⟩ => exact Nat.zero_add _
  | ⟨2, _⟩ => exact Nat.zero_add _

/-- A token's row times the weights gathered for it. -/
theorem apply_expert (x : FVec Ideal S256x128 .f32) (w : FVec Ideal S256x128x256 .f32) (t : Fin 256) (o : Fin 256) :
    Host.dotGeneral dot_S256x128_S256x128x256_S256x256_1_1_n_2_0_0 none x w (ix2 t o) = ∑ d : Fin 128, x (ix2 t d) * w (ix3 t d o) := by
  pointwise [dot_S256x128_S256x128x256_S256x256_1_1_n_2_0_0]

/-! ## The pieces of the result -/

variable (x : FVec Ideal S256x128 .bf16) (r : FVec Ideal S128x32 .bf16) (ri : IVec S256x2 32) (W : FVec Ideal S32x128x256 .bf16)

/-- The scores, their exponentials, the softmax over the experts. -/
abbrev scores : FVec Ideal S256x32 .f32 :=
  Host.dotGeneral dot_S256x128_S128x32_S256x32_1_0_0_1_n_n none (extf .f32 x bitsLt_bf16_f32) (extf .f32 r bitsLt_bf16_f32)

abbrev exps : FVec Ideal S256x32 .f32 :=
  Host.exp (subf (scores x r) (broadcastInDim S256x32 ![0, 1] bcast_S256x1_S256x32_0_1 (broadcastInDim S256x1 ![0] bcast_S256_S256x1_0
    (Host.reduce FloatOps.maximumf (scores x r) (constant S_ .f32 0xFF800000#32) reducesTo_S256x32_S256_d1 h_S_))))

abbrev probs : FVec Ideal S256x32 .f32 :=
  Host.divf (exps x r) (broadcastInDim S256x32 ![0, 1] bcast_S256x1_S256x32_0_1 (broadcastInDim S256x1 ![0] bcast_S256_S256x1_0
    (Host.reduceAdd (exps x r) (constant S_ .f32 0x00000000#32) reducesTo_S256x32_S256_d1 h_S_)))

/-- An index column made nonnegative: `n` is added to a negative index. -/
abbrev wrapped (n : BitVec 32) (v : IVec S256 32) : IVec S256x1 32 :=
  broadcastInDim S256x1 ![0] bcast_S256_S256x1_0 (select (cmpi .slt v (broadcastInDim S256 ![] bcast_S_S256 (constantI S_ 32 0#32)))
    (addi v (broadcastInDim S256 ![] bcast_S_S256 (constantI S_ 32 n))) v)

/-- One of the two columns of the routes. -/
abbrev route0 : IVec S256 32 := shapeCast _ (extractStridedSlice S256x1 ![0, 0] ri slices_S256x2_S256x1_0_0) shapeCasts_S256x1_S256
abbrev route1 : IVec S256 32 := shapeCast _ (extractStridedSlice S256x1 ![0, 1] ri slices_S256x2_S256x1_0_1) shapeCasts_S256x1_S256

/-- The probability of each token's expert `v`. -/
abbrev picked (v : IVec S256 32) : FVec Ideal S256 .f32 :=
  Host.gather gather_S256x32_S256x2_S256_n_01_n_n_01_1_11 (probs x r)
    (concatenate S256x2 1 [⟨S256x1, wrapped 256#32 (iotaInDim S256 32 0)⟩, ⟨S256x1, wrapped 32#32 v⟩] concatenates_S256x1_S256x1_S256x2_d1)

/-- What each token's expert `v` makes of it. -/
abbrev applied (v : IVec S256 32) : FVec Ideal S256x256 .f32 :=
  Host.dotGeneral dot_S256x128_S256x128x256_S256x256_1_1_n_2_0_0 none (extf .f32 x bitsLt_bf16_f32)
    (Host.gather gather_S32x128x256_S256x1_S256x128x256_12_0_n_n_0_1_1128256 (extf .f32 W bitsLt_bf16_f32) (wrapped 32#32 v))

/-- The result of expert `v` weighed by its share of the two probabilities. -/
abbrev weighed (v u w : IVec S256 32) : FVec Ideal S256x256 .f32 :=
  mulf (broadcastInDim S256x256 ![0, 1] bcast_S256x1_S256x256_0_1 (broadcastInDim S256x1 ![0] bcast_S256_S256x1_0
    (Host.divf (picked x r v) (addf (picked x r u) (picked x r w))))) (applied x W v)

theorem result_eq (m : (ℓ : Loc nD τ sig) → Buf (Elt Ideal) ℓ) (c : Dev nD) :
    Value.res_main_v71 m c
      = addf (weighed (m ((c.tc : Thread nD τ).loc main_arg0)) (m ((c.tc : Thread nD τ).loc main_arg1)) (m ((c.tc : Thread nD τ).loc main_arg3))
            (route0 (m ((c.tc : Thread nD τ).loc main_arg2))) (route0 (m ((c.tc : Thread nD τ).loc main_arg2))) (route1 (m ((c.tc : Thread nD τ).loc main_arg2))))
          (weighed (m ((c.tc : Thread nD τ).loc main_arg0)) (m ((c.tc : Thread nD τ).loc main_arg1)) (m ((c.tc : Thread nD τ).loc main_arg3))
            (route1 (m ((c.tc : Thread nD τ).loc main_arg2))) (route0 (m ((c.tc : Thread nD τ).loc main_arg2))) (route1 (m ((c.tc : Thread nD τ).loc main_arg2)))) := rfl

theorem exps_apply (t : Fin 256) (e : Fin 32) : exps x r (ix2 t e) = ex x r t e := by
  pointwise [dot_S256x128_S128x32_S256x32_1_0_0_1_n_n]
  rfl

theorem probs_apply (t : Fin 256) (e : Fin 32) : probs x r (ix2 t e) = Ideal.div (ex x r t e) (∑ e', ex x r t e') := by
  have h := exps_apply x r t
  unfold probs
  generalize exps x r = p at h ⊢
  pointwise [h]

/-- A small number, as a word, reads back signed as itself. -/
theorem small_toInt (k : Nat) (hk : k < 256) : (BitVec.ofNat 32 k).toInt = k := by
  rw [BitVec.toInt_eq_toNat_of_lt (by rw [BitVec.toNat_ofNat]; omega), BitVec.toNat_ofNat, Nat.mod_eq_of_lt (by omega)]

/-- An index that is not negative is left as it is. -/
theorem wrapped_apply (n : BitVec 32) (v : IVec S256 32) (t : Fin 256) (k : Nat) (hk : k < 256) (h : v (ix1 t) = BitVec.ofNat 32 k) :
    wrapped n v (ix2 t 0) = BitVec.ofNat 32 k := by
  pointwise
  rw [h]
  have hs : IntOp.cmpi .slt (BitVec.ofNat 32 k) 0#32 = 0#1 := by
    have : (BitVec.ofNat 32 k).slt 0#32 = false := by
      rw [BitVec.slt_eq_decide, small_toInt k hk]; simp
    simp [IntOp.cmpi, this]
  rw [hs]; rfl

variable {v : IVec S256 32} {i : Fin 256 → Fin 32} (hv : ∀ t, v (ix1 t) = BitVec.ofNat 32 (i t).val)

/-- A word that is a small number, read signed and clamped below `n`. -/
theorem clamp_word {b : BitVec 32} {k n : Nat} (h : b = BitVec.ofNat 32 k) (hn : n < 256) (hk : k ≤ n) : min b.toInt.toNat n = k := by
  rw [h, small_toInt k (by omega), Int.toNat_natCast, Nat.min_eq_left hk]

include hv in
/-- The probability picked is the one of the token's own row and its expert. -/
theorem picked_apply (t : Fin 256) : picked x r v (ix1 t) = probs x r (ix2 t (i t)) := by
  rw [picked, pick_apply]
  have h0 := wrapped_apply 256#32 (iotaInDim S256 32 0) t t.val t.isLt rfl
  have h1 := wrapped_apply 32#32 v t (i t).val (by omega) (hv t)
  generalize wrapped 256#32 (iotaInDim S256 32 0) = a at h0 ⊢
  generalize wrapped 32#32 v = b at h1 ⊢
  generalize probs x r = p
  refine congrArg p (congrArg₂ ix2 (Fin.ext (clamp_word ?_ (by omega) (by omega))) (Fin.ext (clamp_word ?_ (by omega) (by omega))))
  · pointwise [h0]
  · pointwise [h1]

include hv in
/-- What the token's expert makes of it: its row times the expert's weights. -/
theorem applied_apply (t : Fin 256) (o : Fin 256) : applied x W v (ix2 t o) = ∑ d : Fin 128, x (ix2 t d) * W (ix3 (i t) d o) := by
  rw [applied, apply_expert]
  refine Finset.sum_congr rfl fun d _ => ?_
  rw [expert_apply]
  have h1 := wrapped_apply 32#32 v t (i t).val (by omega) (hv t)
  exact congrArg (x (ix2 t d) * ·) (congrArg W (congrArg (ix3 · d o) (Fin.ext (clamp_word h1 (by omega) (by omega)))))

variable {u w : IVec S256 32} {j k : Fin 256 → Fin 32} (hu : ∀ t, u (ix1 t) = BitVec.ofNat 32 (j t).val)
  (hw : ∀ t, w (ix1 t) = BitVec.ofNat 32 (k t).val)

include hv hu hw in
/-- A weighed result: the probability over the sum of the two, times what the expert makes of the token. -/
theorem weighed_apply (t : Fin 256) (o : Fin 256) :
    weighed x r W v u w (ix2 t o)
      = Ideal.div (probs x r (ix2 t (i t))) (probs x r (ix2 t (j t)) + probs x r (ix2 t (k t)))
        * ∑ d : Fin 128, x (ix2 t d) * W (ix3 (i t) d o) := by
  have h1 := picked_apply x r hv t
  have h2 := picked_apply x r hu t
  have h3 := picked_apply x r hw t
  have h4 := applied_apply x W hv t o
  unfold weighed
  generalize picked x r v = a at h1 ⊢
  generalize picked x r u = b at h2 ⊢
  generalize picked x r w = c at h3 ⊢
  generalize applied x W v = y at h4 ⊢
  generalize probs x r = p at h1 h2 h3 ⊢
  pointwise [h1, h2, h3, h4]

variable {x r} {ri W}

/-- The reference's result, with the routes read as experts: each chosen expert's result, weighed by the expert's share
    of the two exponentials. -/
theorem result_apply (m : (ℓ : Loc nD τ sig) → Buf (Elt Ideal) ℓ) (c : Dev nD) {i j : Fin 256 → Fin 32}
    (h0 : m ((c.tc : Thread nD τ).loc main_arg0) = x) (h1 : m ((c.tc : Thread nD τ).loc main_arg1) = r)
    (h2 : m ((c.tc : Thread nD τ).loc main_arg2) = ri) (h3 : m ((c.tc : Thread nD τ).loc main_arg3) = W)
    (hi : ∀ t, ri (ix2 t 0) = BitVec.ofNat 32 (i t).val) (hj : ∀ t, ri (ix2 t 1) = BitVec.ofNat 32 (j t).val)
    (hx : ∀ q, IsReal (x q)) (hr : ∀ q, IsReal (r q)) (t o : Fin 256) :
    Value.res_main_v71 m c (ix2 t o)
      = share (ex x r t (i t)) (ex x r t (j t)) * (∑ d : Fin 128, x (ix2 t d) * W (ix3 (i t) d o))
        + share (ex x r t (j t)) (ex x r t (i t)) * ∑ d : Fin 128, x (ix2 t d) * W (ix3 (j t) d o) := by
  rw [result_eq, h0, h1, h2, h3]
  have h0 : ∀ t, route0 ri (ix1 t) = BitVec.ofNat 32 (i t).val := fun t => by rw [← hi]; pointwise
  have h1 : ∀ t, route1 ri (ix1 t) = BitVec.ofNat 32 (j t).val := fun t => by rw [← hj]; pointwise
  have e := ex_pos hx hr t
  have s₀ := share_probs (ex x r t) e (i t) (j t)
  have s₁ := share_probs (ex x r t) e (j t) (i t)
  refine congrArg₂ (· + ·) ((weighed_apply x r W h0 h0 h1 t o).trans ?_) ((weighed_apply x r W h1 h0 h1 t o).trans ?_)
  · rw [probs_apply, probs_apply, ← s₀]; rfl
  · rw [probs_apply, probs_apply, ← s₁, add_comm]; rfl

end Cert.ReferenceIdeal.Moe
-- ==== Proof.Value.Inputs.lean ====
/-
What the precondition says of one device's inputs: every route names an expert, and the tokens and the router's weights
are real numbers.
-/
module

public import proofs.«01_k».proof.Pre_routed_and_finite_KernelIdeal
public import proofs.«01_k».proof.Proof.Value.Terms
public import Idealize.ShloMosaic.Lib.ReduceAll

@[expose] public section

noncomputable section

namespace Cert.Moe

open Idealize.ShloMosaic
open Cert.Pre_routed_and_finite_KernelIdeal (S256x128 S128x32 S256x2 S2x128x256 S_)

instance preFacts : Cert.Pre_routed_and_finite_KernelIdeal.Facts where
  bcast_S_S256x2 := by decide
  reducesTo_S256x2_S_d0_1 := by decide
  h_S_ := by decide
  bitsLt_bf16_f32 := by decide
  bcast_S_S256x128 := by decide
  reducesTo_S256x128_S_d0_1 := by decide
  bcast_S_S128x32 := by decide
  reducesTo_S128x32_S_d0_1 := by decide

/-- Both of two one-bit words are set if their conjunction is. -/
theorem and_one {a b : BitVec 1} (h : IntOp.andi a b = 1#1) : a = 1#1 ∧ b = 1#1 := by
  revert a b; decide

/-- The pattern the precondition compares with is infinity. -/
theorem posInf : Ideal.ofBits .f32 0x7F800000#32 = ⊤ := by
  simp [Ideal.ofBits, Ideal.ieee]

/-- A number whose absolute value is below infinity is real. -/
theorem real_of_abs_lt {v : EReal}
    (h : Ideal.cmp .olt (max v (-v)) (Ideal.ofBits .f32 0x7F800000#32) = 1#1) : IsReal v := by
  rw [posInf] at h
  have h' : max v (-v) < ⊤ := by
    by_contra hn
    simp [Ideal.cmp, hn] at h
  obtain ⟨h1, h2⟩ := max_lt_iff.mp h'
  refine isReal_of_lt ?_ h1
  rw [bot_lt_iff_ne_bot]
  rintro rfl
  simp at h2

/-- A word between 0 and 32, read signed, is an expert's number. -/
theorem expert_of_range {b : BitVec 32} (h : IntOp.cmpi .sge b 0#32 = 1#1) (h' : IntOp.cmpi .slt b 32#32 = 1#1) :
    ∃ i : Fin 32, b = BitVec.ofNat 32 i.val := by
  have hb : b.toNat < 32 := by
    have k : ∀ {q : Bool}, BitVec.ofBool q = 1#1 → q = true := by decide
    have h1 := k (q := (0#32).sle b) h
    have h2 := k (q := b.slt 32#32) h'
    rw [BitVec.sle_eq_decide, decide_eq_true_eq] at h1
    rw [BitVec.slt_eq_decide, decide_eq_true_eq] at h2
    have e : (32#32).toInt = 32 := by decide
    have e' : (0#32).toInt = 0 := by decide
    rw [e] at h2; rw [e'] at h1
    rw [BitVec.toInt_eq_toNat_cond] at h1 h2
    have hb := b.isLt
    split at h1 <;> omega
  exact ⟨⟨b.toNat, hb⟩, (BitVec.ofNat_toNat ..).symm ▸ (BitVec.setWidth_eq b).symm⟩

/-- What the precondition gives. -/
theorem inputs {x : FVec Ideal S256x128 .bf16} {r : FVec Ideal S128x32 .bf16} {ri : IVec S256x2 32} {W : FVec Ideal S2x128x256 .bf16}
    (h : Cert.Pre_routed_and_finite_KernelIdeal.fn (F := Ideal) x r ri W = fun _ => 1#1) :
    (∀ q, IsReal (x q)) ∧ (∀ q, IsReal (r q)) ∧ ∀ q, ∃ i : Fin 32, ri q = BitVec.ofNat 32 i.val := by
  haveI : Subsingleton S_.Idx := ⟨fun a b => (ValueIdx.eq_ix0 a).trans (ValueIdx.eq_ix0 b).symm⟩
  obtain ⟨h1, h2⟩ := and_one (congrFun h ix0)
  obtain ⟨h3, h4⟩ := and_one h1
  refine ⟨fun q => ?_, fun q => ?_, fun q => ?_⟩
  · exact real_of_abs_lt (Host.reduce_andi_all _ _ _ _ _ h4 q)
  · exact real_of_abs_lt (Host.reduce_andi_all _ _ _ _ _ h2 q)
  · obtain ⟨k1, k2⟩ := and_one (Host.reduce_andi_all _ _ _ _ _ h3 q)
    exact expert_of_range k1 k2

end Cert.Moe
-- ==== Proof.Value.Equation.lean ====
/-
The kernel's result and the reference's are the same over the extended reals, where the precondition holds.
-/
module

public import proofs.«01_k».proof.Proof.Value.Total
public import proofs.«01_k».proof.Proof.Value.RefPart
public import proofs.«01_k».proof.Proof.Value.Inputs
public import proofs.«01_k».proof.Pre_routed_and_finite_ReferenceIdeal
public import Idealize.ShloMosaic.Lib.Layout

@[expose] public section

noncomputable section

namespace Cert.Moe

open Cert.KernelIdeal.Moe
open Idealize.ShloMosaic
open Idealize.ShloMosaic.TcCoe

/-- The shape facts that the precondition of the reference states. -/
instance preFactsReference : Cert.Pre_routed_and_finite_ReferenceIdeal.Facts where
  bcast_S_S256x2 := by decide
  reducesTo_S256x2_S_d0_1 := by decide
  h_S_ := by decide
  bitsLt_bf16_f32 := by decide
  bcast_S_S256x128 := by decide
  reducesTo_S256x128_S_d0_1 := by decide
  bcast_S_S128x32 := by decide
  reducesTo_S128x32_S_d0_1 := by decide

/-- The expert that device `d` holds at place `q`. -/
def expert (d : Dev KernelIdeal.nD) (q : Fin 2) : Fin 32 := finProdFinEquiv (m := 16) (n := 2) (d, q)

theorem expert_val (d : Dev KernelIdeal.nD) (q : Fin 2) : (expert d q).val = d.val * 2 + q.val := by
  show q.val + 2 * d.val = _; omega

/-- A sum over the devices of their two experts' terms is the sum over the experts. -/
theorem sum_experts (f : Fin 32 → EReal) :
    ∑ d : Dev KernelIdeal.nD, (f (expert d 0) + f (expert d 1)) = ∑ e : Fin 32, f e := by
  refine Eq.trans ?_ (Equiv.sum_comp (finProdFinEquiv (m := 16) (n := 2)) f)
  rw [Fintype.sum_prod_type]
  exact Finset.sum_congr rfl fun d _ => (Fin.sum_univ_two fun q => f (expert d q)).symm

/-- The numbers that the kernel computes of its device's two experts. -/
theorem first_expert (d : Dev KernelIdeal.nD) :
    Scalar.addi (Scalar.muli (axis d) 2#32) 0#32 = BitVec.ofNat 32 (expert d 0).val := by
  revert d; decide +kernel
theorem second_expert (d : Dev KernelIdeal.nD) :
    Scalar.addi (Scalar.muli (axis d) 2#32) 1#32 = BitVec.ofNat 32 (expert d 1).val := by
  revert d; decide +kernel

/-- What a device holds of the experts' weights. -/
theorem weights_block (W : (⟨3, ![32, 128, 256]⟩ : Shape).Idx → EReal) (d : Dev KernelIdeal.nD) (q : Fin 2)
    (u : Fin 128) (o : Fin 256) :
    Layout.block ⟨3, ![2, 128, 256]⟩ ⟨3, ![32, 128, 256]⟩ 0 16 d W (by decide) (ix3 q u o) = W (ix3 (expert d q) u o) := by
  refine congrArg W (funext fun a => Fin.ext ?_)
  match a with
  | ⟨0, _⟩ => exact (expert_val d q).symm
  | ⟨1, _⟩ => rfl
  | ⟨2, _⟩ => rfl

/-- What a device holds of the result. -/
theorem result_block (v : (⟨2, ![256, 256]⟩ : Shape).Idx → EReal) (c : Dev KernelIdeal.nD) (a : Fin 16) (b : Fin 256) :
    Layout.block ⟨2, ![16, 256]⟩ ⟨2, ![256, 256]⟩ 0 16 c v (by decide) (ix2 a b)
      = v (ix2 ⟨16 * c.val + a.val, row_lt c a⟩ b) := by
  refine congrArg v (funext fun q => Fin.ext ?_)
  match q with
  | ⟨0, _⟩ => show c.val * 16 + a.val = 16 * c.val + a.val; omega
  | ⟨1, _⟩ => rfl

section
variable {m : (ℓ : Loc KernelIdeal.nD KernelIdeal.τ KernelIdeal.sig) → Buf (Elt Ideal) ℓ} (ρ : Dev KernelIdeal.nD → PrngReg)
variable {x : (⟨2, ![256, 128]⟩ : Shape).Idx → EReal} {r : (⟨2, ![128, 32]⟩ : Shape).Idx → EReal}
variable {ri : (⟨2, ![256, 2]⟩ : Shape).Idx → BitVec 32} {W : (⟨3, ![32, 128, 256]⟩ : Shape).Idx → EReal}
variable {i j : Fin 256 → Fin 32}

/-- One device's partial result: its two experts' terms. -/
theorem part_eq (d : Dev KernelIdeal.nD)
    (h0 : m ((d : Thread KernelIdeal.nD KernelIdeal.τ).loc KernelIdeal.main_arg0) = x)
    (h1 : m ((d : Thread KernelIdeal.nD KernelIdeal.τ).loc KernelIdeal.main_arg1) = r)
    (h2 : m ((d : Thread KernelIdeal.nD KernelIdeal.τ).loc KernelIdeal.main_arg2) = ri)
    (h3 : m ((d : Thread KernelIdeal.nD KernelIdeal.τ).loc KernelIdeal.main_arg3)
      = Layout.block ⟨3, ![2, 128, 256]⟩ ⟨3, ![32, 128, 256]⟩ 0 16 d W)
    (hi : ∀ t, ri (ix2 t 0) = BitVec.ofNat 32 (i t).val) (hj : ∀ t, ri (ix2 t 1) = BitVec.ofNat 32 (j t).val)
    (t o : Fin 256) :
    part m ρ d t o
      = (∑ u : Fin 128, x (ix2 t u) * gate (ex x r t) (i t) (j t) (expert d 0) * W (ix3 (expert d 0) u o))
        + ∑ u : Fin 128, x (ix2 t u) * gate (ex x r t) (i t) (j t) (expert d 1) * W (ix3 (expert d 1) u o) := by
  unfold part P
  rw [xAt_eq, rwAt_eq, riAt_eq, ewAt_eq, h0, h1, h2, h3]
  refine (partialOf_apply x r hi hj (axis d) (expert d 0) (expert d 1) (first_expert d) (second_expert d) _ t o).trans ?_
  refine congrArg₂ (· + ·) (Finset.sum_congr rfl fun u _ => ?_) (Finset.sum_congr rfl fun u _ => ?_)
  · exact congrArg _ (weights_block W d 0 u o)
  · exact congrArg _ (weights_block W d 1 u o)

/-- A device's result: each token's two chosen experts' results, weighed by their shares. -/
theorem outAt_eq (hm : ∀ d : Dev KernelIdeal.nD,
      m ((d : Thread KernelIdeal.nD KernelIdeal.τ).loc KernelIdeal.main_arg0) = x
      ∧ m ((d : Thread KernelIdeal.nD KernelIdeal.τ).loc KernelIdeal.main_arg1) = r
      ∧ m ((d : Thread KernelIdeal.nD KernelIdeal.τ).loc KernelIdeal.main_arg2) = ri
      ∧ m ((d : Thread KernelIdeal.nD KernelIdeal.τ).loc KernelIdeal.main_arg3)
        = Layout.block ⟨3, ![2, 128, 256]⟩ ⟨3, ![32, 128, 256]⟩ 0 16 d W)
    (hi : ∀ t, ri (ix2 t 0) = BitVec.ofNat 32 (i t).val) (hj : ∀ t, ri (ix2 t 1) = BitVec.ofNat 32 (j t).val)
    (hx : ∀ q, IsReal (x q)) (hr : ∀ q, IsReal (r q)) (c : Dev KernelIdeal.nD) (a : Fin 16) (b : Fin 256) (t : Fin 256)
    (ht : t = ⟨16 * c.val + a.val, row_lt c a⟩) :
    (outAt m ρ c : (⟨2, ![16, 256]⟩ : Shape).Idx → EReal) (ix2 a b)
      = share (ex x r t (i t)) (ex x r t (j t)) * (∑ u : Fin 128, x (ix2 t u) * W (ix3 (i t) u b))
        + share (ex x r t (j t)) (ex x r t (i t)) * ∑ u : Fin 128, x (ix2 t u) * W (ix3 (j t) u b) := by
  refine (outAt_apply m ρ c a b).trans ?_
  rw [← ht]
  refine (Finset.sum_congr rfl fun d _ => part_eq ρ d (hm d).1 (hm d).2.1 (hm d).2.2.1 (hm d).2.2.2 hi hj t b).trans ?_
  refine (sum_experts fun e => ∑ u : Fin 128, x (ix2 t u) * gate (ex x r t) (i t) (j t) e * W (ix3 e u b)).trans ?_
  exact sum_gates (ex x r t) (ex_pos hx hr t) (i t) (j t) (fun u => x (ix2 t u)) fun e u => W (ix3 e u b)

variable {m' : (ℓ : Loc ReferenceIdeal.nD ReferenceIdeal.τ ReferenceIdeal.sig) → Buf (Elt Ideal) ℓ}

/-- Where the precondition holds, each device's result is its block of the reference's. -/
theorem equation (hpre : ∀ d : Dev KernelIdeal.nD, Cert.Pre_routed_and_finite_KernelIdeal.fn (F := Ideal)
      (m ((d.tc : Thread KernelIdeal.nD KernelIdeal.τ).loc KernelIdeal.main_arg0))
      (m ((d.tc : Thread KernelIdeal.nD KernelIdeal.τ).loc KernelIdeal.main_arg1))
      (m ((d.tc : Thread KernelIdeal.nD KernelIdeal.τ).loc KernelIdeal.main_arg2))
      (m ((d.tc : Thread KernelIdeal.nD KernelIdeal.τ).loc KernelIdeal.main_arg3)) = fun _ => 1#1)
    (z : Dev ReferenceIdeal.nD)
    (h0 : m' ((z.tc : Thread ReferenceIdeal.nD ReferenceIdeal.τ).loc ReferenceIdeal.main_arg0) = x)
    (h1 : m' ((z.tc : Thread ReferenceIdeal.nD ReferenceIdeal.τ).loc ReferenceIdeal.main_arg1) = r)
    (h2 : m' ((z.tc : Thread ReferenceIdeal.nD ReferenceIdeal.τ).loc ReferenceIdeal.main_arg2) = ri)
    (h3 : m' ((z.tc : Thread ReferenceIdeal.nD ReferenceIdeal.τ).loc ReferenceIdeal.main_arg3) = W)
    (hm : ∀ d : Dev KernelIdeal.nD,
      m ((d.tc : Thread KernelIdeal.nD KernelIdeal.τ).loc KernelIdeal.main_arg0) = x
      ∧ m ((d.tc : Thread KernelIdeal.nD KernelIdeal.τ).loc KernelIdeal.main_arg1) = r
      ∧ m ((d.tc : Thread KernelIdeal.nD KernelIdeal.τ).loc KernelIdeal.main_arg2) = ri
      ∧ m ((d.tc : Thread KernelIdeal.nD KernelIdeal.τ).loc KernelIdeal.main_arg3)
        = Layout.block ⟨3, ![2, 128, 256]⟩ ⟨3, ![32, 128, 256]⟩ 0 16 d W)
    (c : Dev KernelIdeal.nD) :
    finalA m ρ c (4 : Fin 5)
      = Layout.block ⟨2, ![16, 256]⟩ ⟨2, ![256, 256]⟩ 0 16 c (ReferenceIdeal.Value.res_main_v71 m' z) := by
  have hp := hpre c
  rw [(hm c).1, (hm c).2.1, (hm c).2.2.1] at hp
  obtain ⟨hx, hr, hroute⟩ := inputs hp
  choose e he using hroute
  rw [finalA_out]
  funext q
  obtain ⟨a, b, rfl⟩ : ∃ (a : Fin 16) (b : Fin 256), q = ix2 a b := ⟨q 0, q 1, ValueIdx.eq_ix2 q⟩
  refine (outAt_eq ρ hm (i := fun t => e (ix2 t 0)) (j := fun t => e (ix2 t 1)) (fun t => he _) (fun t => he _) hx hr c a b
    _ rfl).trans ?_
  refine Eq.trans ?_ (result_block (ReferenceIdeal.Value.res_main_v71 m' z) c a b).symm
  exact (ReferenceIdeal.Moe.result_apply m' z h0 h1 h2 h3 (fun t => he _) (fun t => he _) hx hr _ b).symm

end

end Cert.Moe
-- ==== Proof.lean ====
/-
The claims, assembled: the kernel and the reference run to the end, with every semaphore at zero and the arguments
unchanged, and over the extended reals each device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs to quiescence and leaves its arguments alone. -/
theorem frame_kernel : Cert.quiescent_Kernel (hKernel := Cert.Kernel.Gen.facts) := fun m g _ =>
  (θ_run Cert.Kernel.defs _ _).mono (fun _ h => ⟨fun c => (h.1 c).2, h.2⟩) (Cert.Kernel.Moe.run_arrays (F := Bits) m g)

/-- So does the kernel over the reals. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Moe.run_arrays (F := Ideal) m g)

/-- So does the reference. -/
theorem frame_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The frames again, where the precondition holds. -/
theorem frame_kernelIdeal_pre : Cert.quiescent_KernelIdeal_pre_routed_and_finite_KernelIdeal
    (hKernelIdeal := Cert.KernelIdeal.Gen.facts) (hPre_routed_and_finite_KernelIdeal := Cert.Moe.preFacts) :=
  fun m g _ => frame_kernelIdeal m g trivial
theorem frame_referenceIdeal_pre : Cert.quiescent_ReferenceIdeal_pre_routed_and_finite_ReferenceIdeal
    (hReferenceIdeal := Cert.ReferenceIdeal.Gen.facts)
    (hPre_routed_and_finite_ReferenceIdeal := Cert.Moe.preFactsReference) :=
  fun m g _ => frame_referenceIdeal m g trivial

/-- Where the precondition holds, every device's result is, over the extended reals, its block of the reference's. -/
theorem algebraic : Cert.algebraic_KernelIdeal_ReferenceIdeal_pre_routed_and_finite_KernelIdeal
    (hKernelIdeal := Cert.KernelIdeal.Gen.facts) (hReferenceIdeal := Cert.ReferenceIdeal.Gen.facts)
    (hPre_routed_and_finite_KernelIdeal := Cert.Moe.preFacts) := fun m g m' g' hpre hm =>
  ⟨Cert.ReferenceIdeal.Value.res_main_v71 m' 0,
    (θ_run Cert.KernelIdeal.defs _ _).mono
      (fun _ h c => ⟨(h.1 c).1.trans (Cert.Moe.equation g hpre 0 rfl rfl rfl rfl hm c), (h.1 c).2⟩)
      (Cert.KernelIdeal.Moe.run_arrays (F := Ideal) m g),
    (θ_run Cert.ReferenceIdeal.defs _ _).mono (fun _ h => h 0) (Cert.ReferenceIdeal.Value.run (F := Ideal) m' g')⟩

/-- Everything claimed. -/
theorem claim : Cert.Claim :=
  ⟨Cert.Kernel.Gen.facts, Cert.KernelIdeal.Gen.facts, Cert.ReferenceIdeal.Gen.facts, Cert.Moe.preFacts,
    Cert.Moe.preFactsReference, frame_kernel, frame_kernelIdeal, frame_kernelIdeal_pre, frame_referenceIdeal,
    frame_referenceIdeal_pre, trivial, algebraic⟩

end Cert.Proof

end
